-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![4096, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1x512 : Shape := ⟨2, ![1, 512]⟩
abbrev S3x1x512 : Shape := ⟨3, ![3, 1, 512]⟩
abbrev S3 : Shape := ⟨1, ![3]⟩
abbrev S_ : Shape := ⟨0, ![]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S1 : Shape := ⟨1, ![1]⟩
abbrev S1x1x512 : Shape := ⟨3, ![1, 1, 512]⟩
abbrev S128x8x512 : Shape := ⟨3, ![128, 8, 512]⟩
abbrev S128x1x512 : Shape := ⟨3, ![128, 1, 512]⟩

abbrev nBuf : Space → Nat
  | .hbm => 2
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | .local _ .vmem, ⟨0, _⟩ => ⟨S1024x512, .f32⟩
  | .local _ .vmem, ⟨1, _⟩ => ⟨S1024x512, .bf16⟩
  | .local _ .vmem, ⟨2, _⟩ => ⟨S1x512, .f32⟩
  | .local _ .vmem, ⟨3, _⟩ => ⟨S3x1x512, .f32⟩
  | .local _ .vmem, ⟨4, _⟩ => ⟨S1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .ne v5 c0_i32_0
  v6

def k0_dev1 : Nat :=
  let c0_i32_58 : BitVec 32 := 0#32
  let c0_i32_56 : BitVec 32 := 0#32
  let c1_i32_57 : BitVec 32 := 1#32
  let v157 : BitVec 32 := Scalar.muli c0_i32_56 c1_i32_57
  let v158 : BitVec 32 := Scalar.addi c0_i32_58 v157
  v158.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .sgt v2 c1_i32_1
  let v8 : BitVec 32 := Scalar.extui v7
  let c0_i32_2 : BitVec 32 := 0#32
  let v9 : BitVec 1 := Scalar.cmpi .ne v8 c0_i32_2
  v9

def k0_dev2 : Nat :=
  let c0_i32_58 : BitVec 32 := 0#32
  let c1_i32_56 : BitVec 32 := 1#32
  let c1_i32_57 : BitVec 32 := 1#32
  let v157 : BitVec 32 := Scalar.muli c1_i32_56 c1_i32_57
  let v158 : BitVec 32 := Scalar.addi c0_i32_58 v157
  v158.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .sgt v2 c2_i32
  let v11 : BitVec 32 := Scalar.extui v10
  let c0_i32_3 : BitVec 32 := 0#32
  let v12 : BitVec 1 := Scalar.cmpi .ne v11 c0_i32_3
  v12

def k0_dev3 : Nat :=
  let c0_i32_58 : BitVec 32 := 0#32
  let c2_i32_56 : BitVec 32 := 2#32
  let c1_i32_57 : BitVec 32 := 1#32
  let v157 : BitVec 32 := Scalar.muli c2_i32_56 c1_i32_57
  let v158 : BitVec 32 := Scalar.addi c0_i32_58 v157
  v158.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v57 : BitVec 1 := Scalar.cmpi .slt v2 c1_i32_13
  let v58 : BitVec 32 := Scalar.extui v57
  let c0_i32_14 : BitVec 32 := 0#32
  let v59 : BitVec 1 := Scalar.cmpi .ne v58 c0_i32_14
  v59

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_59 : BitVec 32 := 0#32
  let c0_i32_60 : BitVec 32 := 0#32
  ![v2.toNat, 0, 0]
def k0_dev4 : Nat :=
  let c0_i32_58 : BitVec 32 := 0#32
  let c1_i32_56 : BitVec 32 := 1#32
  let c1_i32_57 : BitVec 32 := 1#32
  let v157 : BitVec 32 := Scalar.muli c1_i32_56 c1_i32_57
  let v158 : BitVec 32 := Scalar.addi c0_i32_58 v157
  v158.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_15 : BitVec 32 := 2#32
  let v60 : BitVec 1 := Scalar.cmpi .slt v2 c2_i32_15
  let v61 : BitVec 32 := Scalar.extui v60
  let c0_i32_16 : BitVec 32 := 0#32
  let v62 : BitVec 1 := Scalar.cmpi .ne v61 c0_i32_16
  v62

def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_59 : BitVec 32 := 0#32
  let c0_i32_60 : BitVec 32 := 0#32
  ![v2.toNat, 0, 0]
def k0_dev5 : Nat :=
  let c0_i32_58 : BitVec 32 := 0#32
  let c2_i32_56 : BitVec 32 := 2#32
  let c1_i32_57 : BitVec 32 := 1#32
  let v157 : BitVec 32 := Scalar.muli c2_i32_56 c1_i32_57
  let v158 : BitVec 32 := Scalar.addi c0_i32_58 v157
  v158.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v63 : BitVec 1 := Scalar.cmpi .slt v2 c3_i32
  let v64 : BitVec 32 := Scalar.extui v63
  let c0_i32_17 : BitVec 32 := 0#32
  let v65 : BitVec 1 := Scalar.cmpi .ne v64 c0_i32_17
  v65

def k0_off5 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_59 : BitVec 32 := 0#32
  let c0_i32_60 : BitVec 32 := 0#32
  ![v2.toNat, 0, 0]
def k0_dev6 : Nat :=
  let c0_i32_58 : BitVec 32 := 0#32
  let c3_i32_56 : BitVec 32 := 3#32
  let c1_i32_57 : BitVec 32 := 1#32
  let v157 : BitVec 32 := Scalar.muli c3_i32_56 c1_i32_57
  let v158 : BitVec 32 := Scalar.addi c0_i32_58 v157
  v158.toNat
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_49 : BitVec 32 := 1#32
  let v148 : BitVec 1 := Scalar.cmpi .slt v2 c1_i32_49
  let v149 : BitVec 32 := Scalar.extui v148
  let c0_i32_50 : BitVec 32 := 0#32
  let v150 : BitVec 1 := Scalar.cmpi .ne v149 c0_i32_50
  v150

def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_58 : BitVec 32 := 0#32
  let c0_i32_59 : BitVec 32 := 0#32
  ![v2.toNat, 0, 0]
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v151 : BitVec 1 := Scalar.cmpi .slt v2 c2_i32_51
  let v152 : BitVec 32 := Scalar.extui v151
  let c0_i32_52 : BitVec 32 := 0#32
  let v153 : BitVec 1 := Scalar.cmpi .ne v152 c0_i32_52
  v153

def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_58 : BitVec 32 := 0#32
  let c0_i32_59 : BitVec 32 := 0#32
  ![v2.toNat, 0, 0]
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_53 : BitVec 32 := 3#32
  let v154 : BitVec 1 := Scalar.cmpi .slt v2 c3_i32_53
  let v155 : BitVec 32 := Scalar.extui v154
  let c0_i32_54 : BitVec 32 := 0#32
  let v156 : BitVec 1 := Scalar.cmpi .ne v155 c0_i32_54
  v156

def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_58 : BitVec 32 := 0#32
  let c0_i32_59 : BitVec 32 := 0#32
  ![v2.toNat, 0, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S_ : Shape := ⟨0, ![]⟩
abbrev S512 : Shape := ⟨1, ![512]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S4096x512, .f32⟩
  | .hbm, ⟨5, _⟩ => ⟨S_, .i32⟩
  | .hbm, ⟨6, _⟩ => ⟨S4096x512, .f32⟩
  | .hbm, ⟨7, _⟩ => ⟨S_, .i32⟩
  | .hbm, ⟨8, _⟩ => ⟨S512, .f32⟩
  | .hbm, ⟨9, _⟩ => ⟨S4096x512, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x512, .f32⟩
  | .hbm, ⟨14, _⟩ => ⟨S512, .f32⟩
  | .hbm, ⟨15, _⟩ => ⟨S512, .f32⟩
  | .hbm, ⟨16, _⟩ => ⟨S1x512, .f32⟩
  | .hbm, ⟨17, _⟩ => ⟨S_, .i32⟩
  | .hbm, ⟨18, _⟩ => ⟨S4096x512, .f32⟩
  | .hbm, ⟨19, _⟩ => ⟨S_, .i32⟩
  | .hbm, ⟨20, _⟩ => ⟨S_, .i32⟩
  | .hbm, ⟨21, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v4 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v4 : Ref sig .tc := ⟨.hbm, 14, rfl⟩
abbrev main_while0b_v5 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v6 : Ref sig .tc := ⟨.hbm, 18, rfl⟩
abbrev main_while0b_c_4 : Ref sig .tc := ⟨.hbm, 19, rfl⟩
abbrev main_while0b_v7 : Ref sig .tc := ⟨.hbm, 20, rfl⟩
abbrev main_v3 : Ref sig .tc := ⟨.hbm, 21, rfl⟩

abbrev nD : Nat := 1
abbrev τ : Topo := Topo.v7x

variable {F : FTy → Type} [FloatOps F]

abbrev main_while0_count : Scf.Loop 32 := ⟨0#32, 4096#32, 1#32⟩
-- ==== Proof.Protocol.lean ====
/-
The cumulative product's protocol between the four devices.

Every pair of devices `a < b` exchanges two messages. First `b` tells `a`, by one unit on `a`'s barrier semaphore,
that slot `a` of `b`'s receive buffer may be written; then `a` copies the product of all its rows into that slot.
The semaphores of device `c` are therefore: the barrier semaphore, raised once by every later device; three send
semaphores, number `i` raised when the copy to device `i + 1` has left; three receive semaphores, number `j` raised
when the copy from device `j` has landed. Each is waited for once, so each has one round, and the units that raise
it are named by the device they come from.

This module states the schedule of those rounds, what each unit hands over, what a device owes when it starts, and
the order of the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state -/

/-- The protocol's own rounds, the units named by the device that sends them. -/
abbrev UK : Type := URounds (GSem nD τ sig) (Dev nD)
/-- The pipeline's rounds beside the protocol's. -/
abbrev UU : Type := UR sig nD τ × UK

local notation "𝕄" => MT nD τ sig Unit (Elt F) ℕ UU ℕ

abbrev EP : Emb (UR sig nD τ) (MT nD τ sig Unit (Elt F) ℕ UU ℕ) := embL
abbrev EK : Emb UK (MT nD τ sig Unit (Elt F) ℕ UU ℕ) := embR

variable (m : (ℓ : Loc nD τ sig) → Buf (Elt F) ℓ) (ρ : Dev nD → PrngReg)

/-- The memory the run starts from: any contents, every semaphore at zero, any generator registers. -/
def start₀ : MemSt nD τ sig (Elt F) := ⟨m, fun _ => 0, ρ⟩

/-! ## Devices and slots -/

/-- The device whose product slot `j` receives. -/
def dv (j : Fin 3) : Dev nD := ⟨j.val, by have := j.isLt; show _ < 4; omega⟩
/-- The device the `i`-th copy goes to. -/
def dn (i : Fin 3) : Dev nD := ⟨i.val + 1, by have := i.isLt; show _ < 4; omega⟩
/-- The slot device `c` writes on every later device. -/
def sl (c : Dev nD) : Fin 3 := ⟨c.val % 3, Nat.mod_lt _ (by decide)⟩

theorem sl_dv (j : Fin 3) : sl (dv j) = j := by revert j; decide
theorem dv_sl (c : Dev nD) (h : c.val < 3) : dv (sl c) = c := by revert c; decide
theorem sl_val (c : Dev nD) (h : c.val < 3) : (sl c).val = c.val := Nat.mod_eq_of_lt h

/-! ## Buffers and semaphores -/

abbrev xM : Memref sig .tc .vmem S1024x512 .f32 := Memref.whole cc0_stg0_0
abbrev oM : Memref sig .tc .vmem S1024x512 .bf16 := Memref.whole cc0_stg1_0
/-- The row a device sends: the product of its rows. -/
abbrev sM : Memref sig .tc .vmem S1x512 .f32 := Memref.whole cc0_scratch0
/-- The three receive slots. -/
abbrev rM : Memref sig .tc .vmem S3x1x512 .f32 := Memref.whole cc0_scratch1
/-- The product of the rows received so far. -/
abbrev pM : Memref sig .tc .vmem S1x512 .f32 := Memref.whole cc0_scratch2

theorem slot_inb (j : Fin 3) : ∀ a, (![j.val, 0, 0] : Fin 3 → ℕ) a + S1x1x512.size a ≤ S3x1x512.size a := by revert j; decide
theorem sem_inb (j : Fin 3) : ∀ a, (![j.val] : Fin 1 → ℕ) a + S1.size a ≤ S3.size a := by revert j; decide

/-- The elements of receive slot `j`. -/
abbrev slotR (j : Fin 3) : Rect S3x1x512 := Rect.unit (s := S3x1x512) ![j.val, 0, 0] S1x1x512.size (slot_inb j)
/-- Receive slot `j` as the copies name it. -/
abbrev slotM (j : Fin 3) : Memref sig .tc .vmem S1x512 .f32 := (rM.slice (slotR j) (fun _ => rfl)).squeeze S1x512 squeezes_S1x1x512_S1x512

/-- Semaphore `j` of an array of three. -/
abbrev semAt (A : DmaSems sig S3) (j : Fin 3) : DmaSem sig :=
  ((A.slice (Rect.unit (s := S3) ![j.val] S1.size (sem_inb j))).squeeze S_ squeezes_S1_S_).sem

abbrev barS : Sem sig := (SemArray.scalar (sig.barrier 0 rfl) : Sems sig S_).sem
abbrev sendS (i : Fin 3) : DmaSem sig := semAt cc0_scratch3 i
abbrev recvS (j : Fin 3) : DmaSem sig := semAt cc0_scratch4 j

abbrev barCell (c : Dev nD) : GSem nD τ sig := ((c : Thread nD τ), .reg barS)
abbrev sendCell (c : Dev nD) (i : Fin 3) : GSem nD τ sig := ((c : Thread nD τ), .dma (sendS i))
abbrev recvCell (c : Dev nD) (j : Fin 3) : GSem nD τ sig := ((c : Thread nD τ), .dma (recvS j))

/-- The seven semaphores of a device: the barrier's, the three of its sends, the three of its receives. -/
abbrev CK : Type := Unit ⊕ Fin 3 ⊕ Fin 3
abbrev csem : CK → SemLoc sig
  | .inl _ => .reg barS
  | .inr (.inl i) => .dma (sendS i)
  | .inr (.inr j) => .dma (recvS j)
abbrev kcell (ck : Dev nD × CK) : GSem nD τ sig := ((ck.1 : Thread nD τ), csem ck.2)

theorem csem_injective : Function.Injective csem := by decide

/-- Which of the seven a semaphore is, if any. -/
def role (s : SemLoc sig) : Option CK := [Sum.inl (), .inr (.inl 0), .inr (.inl 1), .inr (.inl 2), .inr (.inr 0), .inr (.inr 1), .inr (.inr 2)].find? (fun k => csem k = s)

theorem role_bar : role (.reg barS) = some (.inl ()) := by decide
theorem role_send (i : Fin 3) : role (.dma (sendS i)) = some (.inr (.inl i)) := by revert i; decide
theorem role_recv (j : Fin 3) : role (.dma (recvS j)) = some (.inr (.inr j)) := by revert j; decide

/-- The units one copy of a row raises its semaphores by. -/
abbrev N : ℕ := sM.view.dmaCredit
theorem N_pos : 0 < N := View.dmaCredit_pos _ (by decide)

/-! ## Contents -/

/-- Device `c`'s block of the argument, as its pipeline fetches it. -/
def xstg (c : Dev nD) : (cc0_stg0_0 : Ref sig .tc).ty.Contents (Elt F) :=
  (win0_0.blk (0 : Fin 1)).view.read (Elt F) ((start₀ m ρ).mem ((c : Thread nD τ).loc main_arg0))

/-- The row device `c` sends: the product of its rows. -/
def tot (c : Dev nD) : (cc0_scratch0 : Ref sig .tc).ty.Contents (Elt F) := k0_pay3 (k0_pay2 (xstg m ρ c))

/-- A row as the load of a receive slot returns it. -/
def asSlot (X : S1x512.Idx → Elt F .f32) : S1x1x512.Idx → Elt F .f32 :=
  fun x => X ((Shape.reshapeEquiv squeezes_S1x1x512_S1x512.numel_eq).symm x)

/-- The whole send buffer of device `c` at contents `f`, share `q` of it. -/
def sPts (c : Dev nD) (q : PosShare TreeShare) (f : Buf (Elt F) (sM.view.loc (c : Thread nD τ))) : sProp 𝕄 :=
  sM.view.loc (c : Thread nD τ) ↦[sM.view.set]{q} f
/-- Receive slot `j` of device `c` at contents `f`. -/
def slotP (c : Dev nD) (j : Fin 3) (f : Buf (Elt F) ((slotM j).view.loc (c : Thread nD τ))) : sProp 𝕄 :=
  (slotM j).view.loc (c : Thread nD τ) ↦[(slotM j).view.set]{fullShare} f
/-- Receive slot `j` of device `c`, holding anything. -/
def slotFree (c : Dev nD) (j : Fin 3) : sProp 𝕄 := iprop(∃ f, slotP (F := F) c j f)
/-- Receive slot `j` of device `c`, holding device `j`'s product. -/
def slotFull (c : Dev nD) (j : Fin 3) : sProp 𝕄 :=
  iprop(∃ f, slotP c j ((slotM j).view.write (Elt F) f (tot m ρ (dv j)) Finset.univ))
/-- The share of the send buffer that copy `i` takes along. -/
def shareOf (i : Fin 3) : PosShare TreeShare := match i with
  | 0 => fullShare.left
  | 1 => fullShare.right.left
  | 2 => fullShare.right.right

omit [FloatOps F] in
instance sPts_storable (c : Dev nD) (q) (f) : BI.Storable (upEmb : UEmb _ 𝕄) (sPts (F := F) c q f) := by unfold sPts; infer_instance
omit [FloatOps F] in
instance slotP_storable (c : Dev nD) (j) (f) : BI.Storable (upEmb : UEmb _ 𝕄) (slotP (F := F) c j f) := by unfold slotP; infer_instance
omit [FloatOps F] in
instance slotFree_storable (c : Dev nD) (j) : BI.Storable (upEmb : UEmb _ 𝕄) (slotFree (F := F) c j) := by unfold slotFree; infer_instance
instance slotFull_storable (c : Dev nD) (j) : BI.Storable (upEmb : UEmb _ 𝕄) (slotFull (F := F) m ρ c j) := by unfold slotFull; infer_instance

/-! ## The schedule -/

/-- What device `d`'s unit on `c`'s barrier hands `c`: the slot of `d`'s receive buffer that `c` writes. -/
def barPay (c d : Dev nD) : sProp 𝕄 := slotFree d (sl c)
/-- What the landing of a copy hands its receiver: the slot, filled. -/
def recvPay (c : Dev nD) (j : Fin 3) : sProp 𝕄 := slotFull m ρ c j
/-- What the departure of a copy hands its sender: the share of the send buffer it took along. -/
def sendPay (c : Dev nD) (i : Fin 3) : sProp 𝕄 := sPts c (shareOf i) (tot m ρ c)

/-- The devices that raise semaphore `k` of device `c`. -/
def payers (c : Dev nD) : Option CK → Finset (Dev nD)
  | some (.inl _) => Finset.univ.filter (c < ·)
  | some (.inr (.inl i)) => if c.val ≤ i.val then {c} else ∅
  | some (.inr (.inr j)) => if dv j < c then {dv j} else ∅
  | none => ∅

/-- By how much. -/
def units : Option CK → ℕ
  | some (.inl _) => 1
  | _ => N

/-- Handing over what. -/
def handed (c d : Dev nD) : Option CK → sProp 𝕄
  | some (.inl _) => barPay c d
  | some (.inr (.inl i)) => sendPay m ρ c i
  | some (.inr (.inr j)) => recvPay m ρ c j
  | none => iprop(emp)

/-- The protocol: one round of every semaphore. -/
def sched : Rounds.Schedule (GSem nD τ sig) (Dev nD) 𝕄 where
  duties g r := if r = 0 ∧ g.1.2 = .tc then payers g.1.1 (role g.2) else ∅
  unitless _ := False
  amount g _ _ := units (role g.2)
  payload g _ d := handed m ρ g.1.1 d (role g.2)
  amount_pos g _ _ _ := by
    unfold units
    split
    · exact Nat.one_pos
    · exact N_pos

instance sched_payload_storable (g : GSem nD τ sig) (r : ℕ) (d : Dev nD) :
    BI.Storable (upEmb : UEmb _ 𝕄) ((sched (F := F) m ρ).payload g r d) := by
  show BI.Storable upEmb (handed m ρ g.1.1 d (role g.2))
  unfold handed barPay recvPay sendPay
  split <;> infer_instance

theorem card_later : ∀ c : Dev nD, (Finset.univ.filter (c < ·)).card = 3 - c.val := by decide

section Sched
variable (c : Dev nD)

theorem duties_bar : (sched (F := F) m ρ).duties (barCell c) 0 = Finset.univ.filter (c < ·) := by
  dsimp only [sched]
  rw [if_pos (And.intro rfl rfl), role_bar]; rfl
theorem mem_duties_bar (d : Dev nD) (h : c < d) : d ∈ (sched (F := F) m ρ).duties (barCell c) 0 := by
  rw [duties_bar]; exact Finset.mem_filter.mpr ⟨Finset.mem_univ _, h⟩
theorem duties_send (i : Fin 3) : (sched (F := F) m ρ).duties (sendCell c i) 0 = if c.val ≤ i.val then {c} else ∅ := by
  dsimp only [sched]
  rw [if_pos (And.intro rfl rfl), role_send]; rfl
theorem duties_recv (j : Fin 3) : (sched (F := F) m ρ).duties (recvCell c j) 0 = if dv j < c then {dv j} else ∅ := by
  dsimp only [sched]
  rw [if_pos (And.intro rfl rfl), role_recv]; rfl
theorem duties_later (g : GSem nD τ sig) : ∀ r, 1 ≤ r → (sched (F := F) m ρ).duties g r = ∅ :=
  fun r hr => if_neg fun h => by omega

theorem amount_bar (d : Dev nD) : (sched (F := F) m ρ).amount (barCell c) 0 d = 1 := by
  show units (role (.reg barS)) = 1; rw [role_bar]; rfl
theorem amount_send (i : Fin 3) (d : Dev nD) : (sched (F := F) m ρ).amount (sendCell c i) 0 d = N := by
  show units (role (.dma (sendS i))) = N; rw [role_send]; rfl
theorem amount_recv (j : Fin 3) (d : Dev nD) : (sched (F := F) m ρ).amount (recvCell c j) 0 d = N := by
  show units (role (.dma (recvS j))) = N; rw [role_recv]; rfl

theorem payload_bar (d : Dev nD) : (sched (F := F) m ρ).payload (barCell c) 0 d = barPay c d := by
  show handed m ρ c d (role (.reg barS)) = _; rw [role_bar]; rfl
theorem payload_send (i : Fin 3) (d : Dev nD) : (sched (F := F) m ρ).payload (sendCell c i) 0 d = sendPay m ρ c i := by
  show handed m ρ c d (role (.dma (sendS i))) = _; rw [role_send]; rfl
theorem payload_recv (j : Fin 3) (d : Dev nD) : (sched (F := F) m ρ).payload (recvCell c j) 0 d = recvPay m ρ c j := by
  show handed m ρ c d (role (.dma (recvS j))) = _; rw [role_recv]; rfl

theorem expect_bar : (sched (F := F) m ρ).expect (barCell c) 0 = 3 - c.val := by
  unfold Schedule.expect Schedule.amountOf
  rw [duties_bar, Finset.sum_congr rfl fun d _ => amount_bar m ρ c d, Finset.sum_const, smul_eq_mul, Nat.mul_one]
  exact card_later c
theorem expect_send (i : Fin 3) (h : c.val ≤ i.val) : (sched (F := F) m ρ).expect (sendCell c i) 0 = N := by
  unfold Schedule.expect Schedule.amountOf; rw [duties_send, if_pos h, Finset.sum_singleton, amount_send]
theorem expect_recv (j : Fin 3) (h : dv j < c) : (sched (F := F) m ρ).expect (recvCell c j) 0 = N := by
  unfold Schedule.expect Schedule.amountOf; rw [duties_recv, if_pos h, Finset.sum_singleton, amount_recv]

/-- Everything the barrier's round hands `c`: from every later device, its slot. -/
theorem rest_bar : bigSep ((sched (F := F) m ρ).duties (barCell c) 0 \ ∅) (fun d => (sched (F := F) m ρ).payload (barCell c) 0 d)
    = iprop((if c.val ≤ 0 then barPay c (dn 0) else emp) ∗ (if c.val ≤ 1 then barPay c (dn 1) else emp) ∗ (if c.val ≤ 2 then barPay c (dn 2) else emp)) := by
  rw [Finset.sdiff_empty, duties_bar, bigSep_congr fun d _ => payload_bar m ρ c d, bigSep_filter,
    bigSep_univ_eq_bigSepL [0, dn 0, dn 1, dn 2] (by decide) (by decide), bigSepL_cons_cons, bigSepL_cons_cons, bigSepL_cons_cons, bigSepL_singleton,
    if_neg (show ¬ c < 0 from Nat.not_lt_zero _)]
  have e (i : Fin 3) : (c < dn i) = (c.val ≤ i.val) := propext Nat.lt_succ_iff
  simp only [e]
  exact equiv_iff.mp BI.emp_sep
theorem rest_send (i : Fin 3) (h : c.val ≤ i.val) :
    bigSep ((sched (F := F) m ρ).duties (sendCell c i) 0 \ ∅) (fun d => (sched (F := F) m ρ).payload (sendCell c i) 0 d) = sendPay m ρ c i := by
  rw [Finset.sdiff_empty, duties_send, if_pos h, bigSep_singleton, payload_send]
theorem rest_recv (j : Fin 3) (h : dv j < c) :
    bigSep ((sched (F := F) m ρ).duties (recvCell c j) 0 \ ∅) (fun d => (sched (F := F) m ρ).payload (recvCell c j) 0 d) = recvPay m ρ c j := by
  rw [Finset.sdiff_empty, duties_recv, if_pos h, bigSep_singleton, payload_recv]

end Sched

/-! ## What a device owes, and the order of the waits -/

/-- The unit device `c` owes the barrier of device `j`, if `j` is earlier. -/
def sigT (c : Dev nD) (j : Fin 3) : CellTallies nD τ sig Unit := if dv j < c then tallyAt (barCell (dv j)) () 1 else 0
/-- The copy device `c` owes device `i + 1`, if that is later. -/
def sendT (c : Dev nD) (i : Fin 3) : CellTallies nD τ sig Unit := if c.val ≤ i.val then tallyAt (recvCell (dn i) (sl c)) () N else 0

/-- All the copies device `c` owes; the last summand is paid first. -/
def owedS (c : Dev nD) : CellTallies nD τ sig Unit := 0 + sendT c 2 + sendT c 1 + sendT c 0
/-- All that device `c` owes; the last summand is paid first. -/
def owed₀ (c : Dev nD) : CellTallies nD τ sig Unit := owedS c + sigT c 2 + sigT c 1 + sigT c 0

def L (g : GSem nD τ sig) : Finset Unit := if g.1.2 = .tc then {()} else ∅
/-- Barriers before receives, everything else before both. -/
def lv (g : GSem nD τ sig) (_ : Unit) : ℕ := match role g.2 with
  | some (.inl _) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [role_bar]
theorem lv_recv (c : Dev nD) (j : Fin 3) (u : Unit) : lv (recvCell c j) u = 2 := by unfold lv; rw [role_recv]

theorem sigT_pos {c : Dev nD} {j : Fin 3} {g : GSem nD τ sig} {u : Unit} (h : 0 < sigT c j g u) : g = barCell (dv j) := by
  unfold sigT at h
  split at h
  · rw [tallyAt_apply] at h
    by_contra hn; rw [if_neg fun h' => hn h'.1] at h; exact Nat.lt_irrefl 0 h
  · exact absurd h (Nat.lt_irrefl 0)
theorem sendT_pos {c : Dev nD} {i : Fin 3} {g : GSem nD τ sig} {u : Unit} (h : 0 < sendT c i g u) : g = recvCell (dn i) (sl c) := by
  unfold sendT at h
  split at h
  · rw [tallyAt_apply] at h
    by_contra hn; rw [if_neg fun h' => hn h'.1] at h; exact Nat.lt_irrefl 0 h
  · exact absurd h (Nat.lt_irrefl 0)

theorem owedS_pos {c : Dev nD} {g : GSem nD τ sig} {u : Unit} (h : 0 < owedS c g u) : ∃ d j, g = recvCell d j := by
  unfold owedS at h
  simp only [Pi.add_apply, Finsupp.add_apply, Pi.zero_apply, Finsupp.zero_apply] at h
  have : 0 < sendT c 2 g u ∨ 0 < sendT c 1 g u ∨ 0 < sendT c 0 g u := by omega
  rcases this with h | h | h <;> exact ⟨_, _, sendT_pos h⟩
theorem owed₀_pos {c : Dev nD} {g : GSem nD τ sig} {u : Unit} (h : 0 < owed₀ c g u) : (∃ d j, g = recvCell d j) ∨ ∃ d, g = barCell d := by
  unfold owed₀ at h
  simp only [Pi.add_apply, Finsupp.add_apply] at h
  have : 0 < owedS c g u ∨ 0 < sigT c 2 g u ∨ 0 < sigT c 1 g u ∨ 0 < sigT c 0 g u := by omega
  rcases this with h | h | h | h
  · exact .inl (owedS_pos h)
  all_goals exact .inr ⟨_, sigT_pos h⟩

omit [FloatOps F] in
/-- The pipeline's own waits come before everything a device owes. -/
theorem mayWait_stage (c : Dev nD) (q : DmaSem sig) (hq : role (.dma q) = none) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed₀_pos hg with ⟨d, j, rfl⟩ | ⟨d, rfl⟩ <;> exact Finset.mem_singleton_self _)
      (fun p hp => by rw [Finset.mem_singleton.mp hp]; dsimp only [lv]; rw [hq])
      (fun g u hg => by
        rcases owed₀_pos hg with ⟨d, j, rfl⟩ | ⟨d, rfl⟩
        · rw [lv_recv]; decide
        · rw [lv_bar]; decide)
  · rw [MayWait_zero]; iintro -; iempintro

omit [FloatOps F] in
/-- The barrier's wait comes before the landing of every copy. -/
theorem mayWait_bar (c : Dev nD) : (levAts L lv : sProp 𝕄) ⊢ MayWait (c : Thread nD τ) (.reg barS) () (owedS c) :=
  MayOwe.of_cut (L := L) (lev := lv) 1 (fun p hp => by rw [Finset.mem_singleton.mp hp, L_tc]; exact Finset.mem_singleton_self _)
    (fun g u hg => by obtain ⟨d, j, rfl⟩ := owedS_pos hg; exact Finset.mem_singleton_self _)
    (fun p hp => by rw [Finset.mem_singleton.mp hp, lv_bar])
    (fun g u hg => by obtain ⟨d, j, rfl⟩ := owedS_pos hg; rw [lv_recv]; decide)

end Cert.Cumprod

end
-- ==== Proof.Blocks.lean ====
/-
The steps of a device's program that talk to the other devices, each proved once for every device and every slot.

A device's program is a fixed sequence of guarded steps: raise the barrier of device `j` if it is earlier; wait for
one's own barrier if one is device `j`; copy the product to device `i + 1` if it is later; wait for slot `j` and
multiply it in if its device is earlier; wait for the departure of copy `i` if it was started. Each lemma here takes
one such guarded step, whatever the guard says, from what the device holds before it to what it holds after it.
-/
module

public import proofs.«01_k».proof.Proof.Protocol

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What must hold for program `p`, run by device `c`, to end in `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def ow (c : Dev nD) (O : CellTallies nD τ sig Unit) : sProp 𝕄 := iprop(∃ W, owes (c : Thread nD τ) O W)

/-! ## What every device may use at any time -/

variable (K : Dev nD × CK → ℕ)

/-- The invariants of all the semaphores, and that each is at its first round at least. -/
def records : sProp 𝕄 := bigSep Finset.univ fun ck : Dev nD × CK => iprop(cellInv EK (sched m ρ) (K ck) (kcell ck) ∗ reached EK (kcell ck) 0)

instance records_persistent : BI.Persistent (records (F := F) m ρ K) := by unfold records; infer_instance

theorem records_inv (ck : Dev nD × CK) : records (F := F) m ρ K ⊢ cellInv EK (sched m ρ) (K ck) (kcell ck) := by
  unfold records
  refine (bigSep_elim (Finset.mem_univ ck)).trans ?_
  show iprop(cellInv EK (sched m ρ) (K ck) (kcell ck) ∗ reached EK (kcell ck) 0) ⊢ _
  iintro ⟨H, -⟩; iexact H
theorem records_reached (ck : Dev nD × CK) : records (F := F) m ρ K ⊢ reached EK (kcell ck) 0 := by
  unfold records
  refine (bigSep_elim (Finset.mem_univ ck)).trans ?_
  show iprop(cellInv EK (sched m ρ) (K ck) (kcell ck) ∗ reached EK (kcell ck) 0) ⊢ _
  iintro ⟨-, H⟩; iexact H

section Blocks
variable (c : Dev nD) {α : Type} {k : Prog (TpuEff nD τ sig (Elt F) Λ₀ .tc) α} {C : Prop} [Decidable C]

/-! ## The barrier -/

/-- Raising the barrier of device `j`, if it is earlier, gives it the slot it writes. -/
theorem wp_raise {Q : α → sProp 𝕄} (j : Fin 3) (hC : C ↔ dv j < c) {dst : C → Dev nD} (hdst : ∀ h, dst h = dv j) {n : ℕ} (hn : n = 1) (O : CellTallies nD τ sig Unit) :
    iprop(records m ρ K ∗ ow c (O + sigT c j) ∗ dutyTok EK (barCell (dv j)) 0 c ∗ slotFree c j)
      ⊢ iprop(((ow c O ∗ (if dv j < c then emp else slotFree c j)) -∗ wpc c k Q)
        -∗ wpc c (if h : C then .op (.semSignal (dst h, Proc.tc) barS n) (fun _ => k) else k) Q) := by
  by_cases h : C
  · rw [dif_pos h, hdst h, if_pos (hC.mp h)]
    unfold ow sigT
    rw [if_pos (hC.mp h)]
    iintro ⟨#HR, ⟨%W, HO⟩, Ht, Hs⟩ Hk
    iapply (Rounds.wp_signal 𝒱₀ EK (sched m ρ) (c : Thread nD τ) none (dst := (dv j : Thread nD τ)) (κ := K (dv j, .inl ()))
        (d := c) (mem_duties_bar m ρ (dv j) c (hC.mp h)) ((amount_bar m ρ (dv j) c).trans hn.symm) () O (by rw [hn])) $$ [HO Ht Hs]
    · isplitr; · iapply (records_inv m ρ K (dv j, .inl ())); iexact HR
      isplitl [HO]; · iexact HO
      isplitl [Ht]; · iexact Ht
      isplitl [Hs]; · rw [payload_bar]; unfold barPay; rw [sl_dv]; iexact Hs
      iapply (records_reached m ρ K (dv j, .inl ())); iexact HR
    iintro HO
    iapply Hk
    isplitl [HO]; · iexists W; iexact HO
    iempintro
  · rw [dif_neg h, if_neg (mt hC.mpr h)]
    unfold sigT
    rw [if_neg (mt hC.mpr h), add_zero]
    iintro ⟨-, HO, -, Hs⟩ Hk
    iapply Hk
    isplitl [HO]; · iexact HO
    iexact Hs

/-- The slots the later devices give device `c`. -/
def given : sProp 𝕄 := iprop((if c.val ≤ 0 then barPay (F := F) c (dn 0) else emp) ∗ (if c.val ≤ 1 then barPay c (dn 1) else emp) ∗ (if c.val ≤ 2 then barPay c (dn 2) else emp))

/-- Device `c`'s barrier, once `n` of the three guarded waits are past. -/
def barAt (n : ℕ) : sProp 𝕄 :=
  if c.val < n then iprop(semVal (barCell c) 0 ∗ given (F := F) c) else iprop(atPos EK (barCell c) 0 ∅ 0 ∗ cred (tallyAt (barCell c) () (3 - c.val)))

/-- Waiting for one's own barrier, if one is device `j`. -/
theorem wp_barrier {Q : α → sProp 𝕄} (j : Fin 3) (hC : C ↔ c.val = j.val) {n : ℕ} (hn : n = 3 - j.val) :
    iprop(records m ρ K ∗ levAts L lv ∗ ow c (owedS c) ∗ barAt (F := F) c j.val)
      ⊢ iprop(((ow c (owedS c) ∗ barAt c (j.val + 1)) -∗ wpc c k Q)
        -∗ wpc c (if h : C then .op (.semWait barS n) (fun _ => k) else k) Q) := by
  by_cases h : C
  · have hc := hC.mp h
    rw [dif_pos h]
    unfold ow barAt
    rw [if_neg (by omega), if_pos (by omega)]
    iintro ⟨#HR, #HL, ⟨%W, HO⟩, Hat, Hc⟩ Hk
    iapply (Rounds.wp_wait_rest_token 𝒱₀ EK (sched m ρ) (c : Thread nD τ) none (κ := K (c, .inl ())) (sm := .reg barS) (k' := n)
        (wpE_semWait_eq 𝒱₀ (c : Thread nD τ) none Set.univ) (Set.mem_univ _) () (O := owedS c) (W := W) (R := 0) (m := 0) (T := ∅)
        (by rw [expect_bar, hn, Nat.zero_add, hc])) $$ [Hc HO Hat]
    · isplitr; · iapply (records_inv m ρ K (c, .inl ())); iexact HR
      isplitl [Hc]; · rw [hn, ← hc]; iexact Hc
      isplitl [HO]; · iexact HO
      isplitr; · iapply (mayWait_bar c); iexact HL
      iexact Hat
    iintro ⟨HO, Hat, -, Hp⟩
    imod (Rounds.cell_close EK (sched m ρ) (Set.mem_univ (K (c, .inl ()))) (fun h => h) (R := 0 + 1) (duties_later m ρ (barCell c))) $$ [Hat] with Hz
    · isplitr; · iapply (records_inv m ρ K (c, .inl ())); iexact HR
      iexact Hat
    iapply Hk
    isplitl [HO]; · iexists (insert (SemLoc.reg barS, ()) W); iexact HO
    isplitl [Hz]; · iexact Hz
    unfold given
    iapply (Entails.of_eq (rest_bar m ρ c)); iexact Hp
  · have hc := mt hC.mpr h
    rw [dif_neg h, show barAt (F := F) c (j.val + 1) = barAt c j.val by
      unfold barAt; exact if_congr ⟨fun _ => by omega, fun _ => by omega⟩ rfl rfl]
    iintro ⟨-, -, HO, Hb⟩ Hk
    iapply Hk
    isplitl [HO]; · iexact HO
    iexact Hb

/-- A barrier nobody raises is back at zero without a wait. -/
theorem bar_end : iprop(records m ρ K ∗ barAt (F := F) c 3) ⊢ |={Set.univ}=> iprop(semVal (barCell c) 0 ∗ given c) := by
  unfold barAt
  by_cases h : c.val < 3
  · rw [if_pos h]
    iintro ⟨-, H⟩; imodintro; iexact H
  · rw [if_neg h]
    iintro ⟨#HR, Hat, -⟩
    imod (Rounds.cell_close EK (sched m ρ) (Set.mem_univ (K (c, .inl ()))) (fun h => h) (R := 0)
      (fun r _ => by
        rcases Nat.eq_zero_or_pos r with rfl | hr
        · have hlt : c.val < 4 := c.isLt
          rw [duties_bar]
          refine Finset.filter_eq_empty_iff.mpr fun d _ hd => ?_
          have h1 : c.val < d.val := hd
          have h2 : d.val < 4 := d.isLt
          omega
        · exact duties_later m ρ (barCell c) r hr)) $$ [Hat] with Hz
    · isplitr; · iapply (records_inv m ρ K (c, .inl ())); iexact HR
      iexact Hat
    imodintro
    isplitl [Hz]; · iexact Hz
    unfold given
    rw [if_neg (by omega), if_neg (by omega), if_neg (by omega)]
    isplitr; · iempintro
    isplitr <;> iempintro

/-! ## The copies -/

/-- Copying the product to device `i + 1`, if it is later, gives up the share of the send buffer and the slot, and
    leaves the right to wait for the departure. -/
theorem wp_copy {Q : α → sProp 𝕄} (i : Fin 3) (hC : C ↔ c.val ≤ i.val) {dst : C → Dev nD} (hdst : ∀ h, dst h = dn i)
    {off : Fin 3 → ℕ} (hoff : C → off = ![(sl c).val, 0, 0]) {inb : C → ∀ a, off a + S1x1x512.size a ≤ S3x1x512.size a}
    {off' : Fin 1 → ℕ} (hoff' : C → off' = ![(sl c).val]) {inb' : C → ∀ a, off' a + S1.size a ≤ S3.size a}
    {hsc : ∀ h : C, ((rM.slice (Rect.unit (s := S3x1x512) off S1x1x512.size (inb h)) (fun _ => rfl)).squeeze S1x512 squeezes_S1x1x512_S1x512 : Memref sig (Dev.tc (dst h) : Thread nD τ).2.kind .vmem S1x512 .f32).view.ref.isScScratch = false}
    {hsrc : C → sM.view.WordExact}
    {hdstx : ∀ h : C, ((rM.slice (Rect.unit (s := S3x1x512) off S1x1x512.size (inb h)) (fun _ => rfl)).squeeze S1x512 squeezes_S1x1x512_S1x512).view.WordExact}
    {hsem : ∀ h : C, DmaTarget.Typed .vmem (.dma ((cc0_scratch4.slice (Rect.unit (s := S3) off' S1.size (inb' h))).squeeze S_ squeezes_S1_S_).sem)
      (.remote (Dev.tc (dst h) : Thread nD τ) ((rM.slice (Rect.unit (s := S3x1x512) off S1x1x512.size (inb h)) (fun _ => rfl)).squeeze S1x512 squeezes_S1x1x512_S1x512) (.dma (sendS i)) (hsc h))}
    (O : CellTallies nD τ sig Unit) :
    iprop(records m ρ K ∗ ow c (O + sendT c i) ∗ sPts c (shareOf i) (tot m ρ c) ∗ (if c.val ≤ i.val then barPay c (dn i) else emp)
        ∗ dutyTok EK (sendCell c i) 0 c ∗ dutyTok EK (recvCell (dn i) (sl c)) 0 c)
      ⊢ iprop(((ow c O ∗ (if c.val ≤ i.val then cred (tallyAt (sendCell c i) () N) else sPts c (shareOf i) (tot m ρ c))) -∗ wpc c k Q)
        -∗ wpc c (if h : C then
            .op (.enqueueDma sM (.remote (Dev.tc (dst h) : Thread nD τ) ((rM.slice (Rect.unit (s := S3x1x512) off S1x1x512.size (inb h)) (fun _ => rfl)).squeeze S1x512 squeezes_S1x1x512_S1x512)
                (.dma (sendS i)) (hsc h)) (.dma ((cc0_scratch4.slice (Rect.unit (s := S3) off' S1.size (inb' h))).squeeze S_ squeezes_S1_S_).sem) (hsrc h) (hdstx h) (hsem h)) (fun _ => k)
          else k) Q) := by
  by_cases h : C
  · have hc := hC.mp h
    have hi := i.isLt
    have hlt : c < dn i := Nat.lt_succ_of_le hc
    have hd : dv (sl c) = c := dv_sl c (by omega)
    rw [dif_pos h, if_pos hc, if_pos hc]
    generalize hg1 : inb h = i1
    generalize hg2 : inb' h = i2
    generalize hg3 : hsrc h = i3
    generalize hg4 : hdstx h = i4
    generalize hg5 : hsem h = i5
    generalize hsc h = i6 at i5
    clear hg1 hg2 hg3 hg4 hg5 hsem hdstx hsrc hsc
    revert i1 i2 i4 i5 i6
    generalize dst h = e, hdst h = he
    obtain rfl := hoff h
    obtain rfl := hoff' h
    subst he
    intro i1 i2 i4 i5 i6
    unfold ow sendT barPay slotFree
    rw [if_pos hc]
    iintro ⟨#HR, ⟨%W, HO⟩, Hs, ⟨%fd, Hd⟩, Ht1, Ht2⟩ Hk
    unfold sPts slotP
    iapply (Rounds.wp_send_pointsTo 𝒱₀ EK (sched m ρ) (c : Thread nD τ) none (κ₁ := K (c, .inr (.inl i))) (κ₂ := K (dn i, .inr (.inr (sl c))))
      (r₁ := 0) (r₂ := 0) (d₁ := c) (d₂ := c) (fd := fd)
      (by rw [duties_send, if_pos hc]; exact Finset.mem_singleton_self _)
      (by rw [duties_recv, hd, if_pos hlt]; exact Finset.mem_singleton_self _)
      () () N rfl (amount_send m ρ c i c) (amount_recv m ρ (dn i) (sl c) c) O rfl (W := W)
      (by rw [payload_send]; unfold sendPay sPts; exact BI.Entails.refl _)
      (by
        rw [payload_recv]; unfold recvPay slotFull slotP; rw [hd]
        iintro H; iexists fd
        iexact H)) $$ [HO Hs Hd Ht1 Ht2]
    · isplitr; · iapply (records_inv m ρ K (c, .inr (.inl i))); iexact HR
      isplitr; · iapply (records_inv m ρ K (dn i, .inr (.inr (sl c)))); iexact HR
      isplitl [Hs]; · iexact Hs
      isplitl [Hd]; · iexact Hd
      isplitl [HO]; · iexact HO
      isplitl [Ht1]; · iexact Ht1
      isplitr; · iapply (records_reached m ρ K (c, .inr (.inl i))); iexact HR
      isplitl [Ht2]; · iexact Ht2
      iapply (records_reached m ρ K (dn i, .inr (.inr (sl c)))); iexact HR
    iintro ⟨Hc, HO⟩
    iapply Hk
    isplitl [HO]; · iexists W; iexact HO
    iexact Hc
  · have hc := mt hC.mpr h
    rw [dif_neg h, if_neg hc, if_neg hc]
    unfold sendT
    rw [if_neg hc, add_zero]
    iintro ⟨-, HO, Hs, -⟩ Hk
    iapply Hk
    isplitl [HO]; · iexact HO
    iexact Hs

/-- Waiting for the departure of copy `i`, if it was started, gives the share of the send buffer back. -/
theorem wp_departed {Q : α → sProp 𝕄} (i : Fin 3) (hC : C ↔ c.val ≤ i.val) {src : C → Memref sig .tc .vmem S1x512 .f32} {hsrc : ∀ h, (src h).view.WordExact} {hdst : C → sM.view.WordExact} :
    iprop(records m ρ K ∗ ow c 0 ∗ (if c.val ≤ i.val then cred (tallyAt (sendCell c i) () N) else sPts c (shareOf i) (tot m ρ c)) ∗ atPos EK (sendCell c i) 0 ∅ 0)
      ⊢ iprop(((ow c 0 ∗ sPts c (shareOf i) (tot m ρ c) ∗ semVal (sendCell c i) 0) -∗ wpc c k Q)
        -∗ wpc c (if h : C then .op (.waitDma2 (sendS i) (src h) sM (hsrc h) (hdst h)) (fun _ => k) else k) Q) := by
  by_cases h : C
  · have hc := hC.mp h
    rw [dif_pos h, if_pos hc]
    unfold ow
    iintro ⟨#HR, ⟨%W, HO⟩, Hc, Hat⟩ Hk
    iapply (Rounds.wp_wait_rest_token 𝒱₀ EK (sched m ρ) (c : Thread nD τ) none (κ := K (c, .inr (.inl i)))
        (wpE_waitDma2_eq 𝒱₀ (c : Thread nD τ) none Set.univ) (Set.mem_univ _) () (O := 0) (W := W) (R := 0) (m := 0) (T := ∅)
        (by rw [Nat.zero_add, expect_send m ρ c i hc])) $$ [Hc HO Hat]
    · isplitr; · iapply (records_inv m ρ K (c, .inr (.inl i))); iexact HR
      isplitl [Hc]; · iexact Hc
      isplitl [HO]; · iexact HO
      isplitr; · rw [MayWait_zero]; iempintro
      iexact Hat
    iintro ⟨HO, Hat, -, Hp⟩
    imod (Rounds.cell_close EK (sched m ρ) (Set.mem_univ (K (c, .inr (.inl i)))) (fun h => h) (R := 0 + 1) (duties_later m ρ (sendCell c i))) $$ [Hat] with Hz
    · isplitr; · iapply (records_inv m ρ K (c, .inr (.inl i))); iexact HR
      iexact Hat
    iapply Hk
    isplitl [HO]; · iexists (insert (SemLoc.dma (sendS i), ()) W); iexact HO
    isplitl [Hp]; · iapply (Entails.of_eq (show _ = sPts c (shareOf i) (tot m ρ c) from rest_send m ρ c i hc)); iexact Hp
    iexact Hz
  · have hc := mt hC.mpr h
    rw [dif_neg h, if_neg hc]
    iintro ⟨#HR, HO, Hs, Hat⟩ Hk
    imod (Rounds.cell_close EK (sched m ρ) (Set.mem_univ (K (c, .inr (.inl i)))) (fun h => h) (R := 0)
      (fun r _ => by
        rcases Nat.eq_zero_or_pos r with rfl | hr
        · rw [duties_send, if_neg hc]
        · exact duties_later m ρ (sendCell c i) r hr)) $$ [Hat] with Hz
    · isplitr; · iapply (records_inv m ρ K (c, .inr (.inl i))); iexact HR
      iexact Hat
    iapply Hk
    isplitl [HO]; · iexact HO
    isplitl [Hs]; · iexact Hs
    iexact Hz

/-! ## The running product of what is received -/

abbrev pR : Rect S1x512 := Rect.unit (s := S1x512) ![0, 0] S1x512.size inb_S1x512_S1x512_0_0

/-- The buffer of the running product at contents `f`. -/
def pPts (f : Buf (Elt F) ((c : Thread nD τ).loc cc0_scratch2)) : sProp 𝕄 := ((c : Thread nD τ).loc cc0_scratch2) ↦{fullShare} f

/-- The running product after slot `j`: times device `j`'s product, if that device is earlier. -/
def step (j : Fin 3) (p : (cc0_scratch2 : Ref sig .tc).ty.Contents (Elt F)) : (cc0_scratch2 : Ref sig .tc).ty.Contents (Elt F) :=
  if dv j < c then k0_pay10 p (asSlot (tot m ρ (dv j))) else p

theorem zeros : (![0, 0] : Fin 2 → ℕ) = fun _ => 0 := funext fun a => by fin_cases a <;> rfl
omit [FloatOps F] in
theorem read_p (f : (cc0_scratch2 : Ref sig .tc).ty.Contents (Elt F)) : pM.view.readAt (Elt F) pR.toLoadRect f = f :=
  Memref.readAt_unit_zero (Elt F) cc0_scratch2 zeros _ f
omit [FloatOps F] in
theorem write_p (f w : (cc0_scratch2 : Ref sig .tc).ty.Contents (Elt F)) :
    (pM.access pR : View sig .tc _ _ _).write (Elt F) f w Finset.univ = w :=
  Memref.write_access_unit_zero_univ (Elt F) cc0_scratch2 zeros _ f w

omit [FloatOps F] in
/-- A filled slot, loaded. -/
theorem read_slot (j : Fin 3) (f : (cc0_scratch1 : Ref sig .tc).ty.Contents (Elt F)) (X : S1x512.Idx → Elt F .f32) :
    rM.view.readAt (Elt F) (slotR j).toLoadRect ((slotM j).view.write (Elt F) f X Finset.univ) = asSlot X := by
  have e : (slotM j).view.write (Elt F) f X Finset.univ = (rM.view.slice (slotR j)).write (Elt F) f (asSlot X) Finset.univ :=
    View.write_reshape_univ (v := rM.view.slice (slotR j)) squeezes_S1x1x512_S1x512.numel_eq f X
  rw [e]
  exact View.read_write_univ (v := rM.view.slice (slotR j)) f (asSlot X)
omit [FloatOps F] in
theorem slot_load (j : Fin 3) : rM.view.setOn (slotR j).toLoadRect.set ⊆ (slotM j).view.set := by
  intro x hx
  rw [show (slotM j).view.set = (rM.view.slice (slotR j)).set from View.set_reshape (v := rM.view.slice (slotR j)) squeezes_S1x1x512_S1x512.numel_eq, View.set_slice]
  exact hx

/-- Waiting for slot `j` and multiplying it in, if its device is earlier. -/
theorem wp_receive {Q : α → sProp 𝕄} (j : Fin 3) (hC : C ↔ dv j < c) (p : (cc0_scratch2 : Ref sig .tc).ty.Contents (Elt F))
    {pay : Vec F S1x512 .f32 → Vec F S1x1x512 .f32 → FVec F S1x512 .f32} (hpay : pay = k0_pay10)
    {hs1 : C → sM.view.WordExact} {hs2 : C → (slotM j).view.WordExact} {l1 l3 : C → pM.view.LoadsAt pR.toLoadRect} {l2 : C → rM.view.LoadsAt (slotR j).toLoadRect}
    {hx : C → (pM.access pR).Stores Finset.univ} {hm : C → Finset.univ = Finset.univ ∨ ∀ a, pR.stride a = 1} :
    iprop(records m ρ K ∗ ow c 0 ∗ atPos EK (recvCell c j) 0 ∅ 0 ∗ cred (tallyAt (recvCell c j) () (if dv j < c then N else 0))
        ∗ (if dv j < c then emp else slotFree c j) ∗ pPts c p)
      ⊢ iprop(((ow c 0 ∗ semVal (recvCell c j) 0 ∗ slotFree c j ∗ pPts c (step m ρ c j p)) -∗ wpc c k Q)
        -∗ wpc c (if h : C then
            .op (.waitDma2 (recvS j) sM (slotM j) (hs1 h) (hs2 h)) (fun _ => .op (.load pM pR.toLoadRect (l1 h)) fun u => .op (.load rM (slotR j).toLoadRect (l2 h)) fun v =>
              .op (.load pM pR.toLoadRect (l3 h)) fun _ => .op (.store pM pR (pay u v) Finset.univ (hx h) (hm h)) fun _ => k)
          else k) Q) := by
  subst hpay
  by_cases h : C
  · have hc := hC.mp h
    rw [dif_pos h, if_pos hc, if_pos hc]
    unfold ow pPts step
    rw [if_pos hc]
    iintro ⟨#HR, ⟨%W, HO⟩, Hat, Hc, -, Hb⟩ Hk
    iapply (Rounds.wp_wait_rest_token 𝒱₀ EK (sched m ρ) (c : Thread nD τ) none (κ := K (c, .inr (.inr j)))
        (wpE_waitDma2_eq 𝒱₀ (c : Thread nD τ) none Set.univ) (Set.mem_univ _) () (O := 0) (W := W) (R := 0) (m := 0) (T := ∅)
        (by rw [Nat.zero_add, expect_recv m ρ c j hc])) $$ [Hc HO Hat]
    · isplitr; · iapply (records_inv m ρ K (c, .inr (.inr j))); iexact HR
      isplitl [Hc]; · iexact Hc
      isplitl [HO]; · iexact HO
      isplitr; · rw [MayWait_zero]; iempintro
      iexact Hat
    iintro ⟨HO, Hat, -, Hp⟩
    imod (Rounds.cell_close EK (sched m ρ) (Set.mem_univ (K (c, .inr (.inr j)))) (fun h => h) (R := 0 + 1) (duties_later m ρ (recvCell c j))) $$ [Hat] with Hz
    · isplitr; · iapply (records_inv m ρ K (c, .inr (.inr j))); iexact HR
      iexact Hat
    ihave Hp := (Entails.of_eq (rest_recv m ρ c j hc)) $$ Hp
    unfold recvPay slotFull slotP
    icases Hp with ⟨%f, Hs⟩
    iapply (wp_load 𝒱₀ (c : Thread nD τ) none Set.univ (m := pM) (Finset.subset_univ _)) $$ Hb; iintro Hb
    rw [read_p]
    iapply (wp_load 𝒱₀ (c : Thread nD τ) none Set.univ (m := rM) (slot_load j)) $$ Hs; iintro Hs
    rw [read_slot]
    iapply (wp_load 𝒱₀ (c : Thread nD τ) none Set.univ (m := pM) (Finset.subset_univ _)) $$ Hb; iintro Hb
    iapply (wp_store 𝒱₀ (c : Thread nD τ) none Set.univ (m := pM) (r := pR) (Mk := Finset.univ) (Finset.subset_univ _)) $$ Hb; iintro Hb
    rw [write_p]
    iapply Hk
    isplitl [HO]; · iexists (insert (SemLoc.dma (recvS j), ()) W); iexact HO
    isplitl [Hz]; · iexact Hz
    isplitl [Hs]; · unfold slotFree slotP; iexists _; iexact Hs
    iexact Hb
  · have hc := mt hC.mpr h
    rw [dif_neg h, if_neg hc, if_neg hc]
    unfold step
    rw [if_neg hc]
    iintro ⟨#HR, HO, Hat, -, Hs, Hb⟩ Hk
    imod (Rounds.cell_close EK (sched m ρ) (Set.mem_univ (K (c, .inr (.inr j)))) (fun h => h) (R := 0)
      (fun r _ => by
        rcases Nat.eq_zero_or_pos r with rfl | hr
        · rw [duties_recv, if_neg hc]
        · exact duties_later m ρ (recvCell c j) r hr)) $$ [Hat] with Hz
    · isplitr; · iapply (records_inv m ρ K (c, .inr (.inr j))); iexact HR
      iexact Hat
    iapply Hk
    isplitl [HO]; · iexact HO
    isplitl [Hz]; · iexact Hz
    isplitl [Hs]; · iexact Hs
    iexact Hb

end Blocks

end Cert.Cumprod

end
-- ==== Proof.Body.lean ====
/-
A device's whole program, run from what the launch gives it to what it hands back.

The program comes in four parts and a last guarded wait. Each part is run by its own theorem from the guarded steps of
`Blocks`; `sound_body` puts them together. The result block is `outAt`: the in-block scan of the device's rows, times
the running product of what it received from the earlier devices.
-/
module

public import proofs.«01_k».proof.Proof.Blocks
public import Idealize.ShloMosaic.Lib.Ring

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The product of the blocks before device `c`'s, as its program forms it. -/
def before (c : Dev nD) : (cc0_scratch2 : Ref sig .tc).ty.Contents (Elt F) := step m ρ c 2 (step m ρ c 1 (step m ρ c 0 k0_pay9))

/-- The result block of device `c`. -/
def outAt (c : Dev nD) : (cc0_stg1_0 : Ref sig .tc).ty.Contents (Elt F) :=
  k0_pay13 (k0_pay6 (k0_pay4 (k0_pay1 (xstg m ρ c))) k0_pay5) (k0_pay7 (k0_pay4 (k0_pay1 (xstg m ρ c))) k0_pay5) k0_pay8 1#32 (before m ρ c)

/-! ## What a device holds -/

variable (K : Dev nD × CK → ℕ)

/-- One proposition for each of the three slots, or copies. -/
abbrev three (P : Fin 3 → sProp 𝕄) : sProp 𝕄 := iprop(P 0 ∗ P 1 ∗ P 2)

/-- The rights to raise other devices' semaphores, and one's own when a copy departs. -/
def rights (c : Dev nD) : sProp 𝕄 :=
  iprop(three (fun j => dutyTok EK (barCell (dv j)) 0 c) ∗ three (fun i => dutyTok EK (sendCell c i) 0 c) ∗ three (fun i => dutyTok EK (recvCell (dn i) (sl c)) 0 c))

/-- The device's place at each of its semaphores: before the one round. -/
def places (c : Dev nD) : sProp 𝕄 :=
  iprop(atPos EK (barCell c) 0 ∅ 0 ∗ three (fun i => atPos EK (sendCell c i) 0 ∅ 0) ∗ three (fun j => atPos EK (recvCell c j) 0 ∅ 0))

/-- The right to wait for what the other devices owe it. -/
def claims (c : Dev nD) : sProp 𝕄 :=
  iprop(cred (tallyAt (barCell c) () (3 - c.val)) ∗ three (fun j => cred (tallyAt (recvCell c j) () (if dv j < c then N else 0))))

/-- The three buffers of the device's own, holding anything. -/
def buffers (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ ∃ f : Buf (Elt F) ((c : Thread nD τ).loc cc0_scratch2), ((c : Thread nD τ).loc cc0_scratch2) ↦{fullShare} f)

/-- What the launch gives device `c`. -/
def atStart (c : Dev nD) : sProp 𝕄 := iprop((∃ K, records m ρ K ∗ places c ∗ rights c) ∗ claims c ∗ levAts L lv)

def Φ₀ (c : Dev nD) : sProp 𝕄 := iprop(atStart m ρ c ∗ buffers c)
/-- What it hands back: its buffers, and its semaphores at zero. -/
def Φ₁ (c : Dev nD) : sProp 𝕄 :=
  iprop(buffers c ∗ semVal (barCell c) 0 ∗ three (fun i => semVal (sendCell c i) 0) ∗ three (fun j => semVal (recvCell c j) 0))

def dats (_ : Fin 1) (c : Dev nD) : Dat τ (Elt F) Unit ℕ UU ℕ cfg0 c where
  A w := (start₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => owed₀ c
    | ⟨_ + 1, _⟩ => 0

/-! ## Reading and writing whole buffers -/

abbrev bR : Rect S1024x512 := Rect.unit (s := S1024x512) ![0, 0] S1024x512.size inb_S1024x512_S1024x512_0_0
omit [FloatOps F] in
theorem read_x (f : (cc0_stg0_0 : Ref sig .tc).ty.Contents (Elt F)) : xM.view.readAt (Elt F) bR.toLoadRect f = f :=
  Memref.readAt_unit_zero (Elt F) cc0_stg0_0 zeros _ f
omit [FloatOps F] in
theorem write_o (f w : (cc0_stg1_0 : Ref sig .tc).ty.Contents (Elt F)) : (oM.access bR : View sig .tc _ _ _).write (Elt F) f w Finset.univ = w :=
  Memref.write_access_unit_zero_univ (Elt F) cc0_stg1_0 zeros _ f w
omit [FloatOps F] in
theorem write_s (f w : (cc0_scratch0 : Ref sig .tc).ty.Contents (Elt F)) : (sM.access pR : View sig .tc _ _ _).write (Elt F) f w Finset.univ = w :=
  Memref.write_access_unit_zero_univ (Elt F) cc0_scratch0 zeros _ f w

/-- A staging buffer of device `c` at contents `X`. -/
abbrev stg (c : Dev nD) (b : Ref sig .tc) (X : b.ty.Contents (Elt F)) : sProp 𝕄 := ((c : Thread nD τ).loc b) ↦{fullShare} X

omit [FloatOps F] in
/-- The send buffer is the three shares of it. -/
theorem shares (c : Dev nD) (f : (cc0_scratch0 : Ref sig .tc).ty.Contents (Elt F)) :
    (((c : Thread nD τ).loc cc0_scratch0) ↦{fullShare} f : sProp 𝕄) ⊣⊢ three (fun i => sPts c (shareOf i) f) := by
  have e : sM.view.set = Finset.univ := View.set_whole _
  unfold sPts
  rw [e]
  have h1 : (((c : Thread nD τ).loc cc0_scratch0) ↦{fullShare} f : sProp 𝕄) ⊣⊢ _ := pointsTo_share (PosShare.mem_left_op_right fullShare)
  have h2 : (((c : Thread nD τ).loc cc0_scratch0) ↦{fullShare.right} f : sProp 𝕄) ⊣⊢ _ := pointsTo_share (PosShare.mem_left_op_right fullShare.right)
  constructor
  · iintro H
    ihave H := h1.1 $$ H
    icases H with ⟨H0, H⟩
    ihave H := h2.1 $$ H
    icases H with ⟨H1, H2⟩
    isplitl [H0]; · iexact H0
    isplitl [H1]; · iexact H1
    iexact H2
  · iintro ⟨H0, H1, H2⟩
    iapply h1.2
    isplitl [H0]; · iexact H0
    iapply h2.2
    isplitl [H1]; · iexact H1
    iexact H2

/-! ## The parts -/

/-- A device's number as its program computes it. -/
abbrev myId (c : Dev nD) : BitVec 32 := Scalar.remsi (Scalar.divsi (Dev.word c) 1#32) 4#32

/-- The slots a device keeps: those no earlier device writes. -/
def kept (c : Dev nD) : sProp 𝕄 := three (fun j => if dv j < c then (BI.emp : sProp 𝕄) else slotFree c j)

theorem raise_iff0 (c : Dev nD) : k0_cond1 c = 1#1 ↔ dv 0 < c := by revert c; decide
theorem raise_iff1 (c : Dev nD) : k0_cond2 c = 1#1 ↔ dv 1 < c := by revert c; decide
theorem raise_iff2 (c : Dev nD) : k0_cond3 c = 1#1 ↔ dv 2 < c := by revert c; decide

theorem barrier_iff0 (c : Dev nD) : Scalar.cmpi .ne (Scalar.extui (Scalar.cmpi .eq (myId c) 0#32)) 0#32 = 1#1 ↔ c.val = (0 : Fin 3).val := by revert c; decide
theorem barrier_iff1 (c : Dev nD) : Scalar.cmpi .ne (Scalar.extui (Scalar.cmpi .eq (myId c) 1#32)) 0#32 = 1#1 ↔ c.val = (1 : Fin 3).val := by revert c; decide
theorem barrier_iff2 (c : Dev nD) : Scalar.cmpi .ne (Scalar.extui (Scalar.cmpi .eq (myId c) 2#32)) 0#32 = 1#1 ↔ c.val = (2 : Fin 3).val := by revert c; decide
theorem copy_iff0 (c : Dev nD) : k0_cond7 c = 1#1 ↔ c.val ≤ (0 : Fin 3).val := by revert c; decide
theorem copy_iff1 (c : Dev nD) : k0_cond8 c = 1#1 ↔ c.val ≤ (1 : Fin 3).val := by revert c; decide
theorem copy_iff2 (c : Dev nD) : k0_cond9 c = 1#1 ↔ c.val ≤ (2 : Fin 3).val := by revert c; decide
theorem receive_iff0 (c : Dev nD) : Scalar.cmpi .ne (Scalar.extui (Scalar.cmpi .sgt (myId c) 0#32)) 0#32 = 1#1 ↔ dv 0 < c := by revert c; decide
theorem receive_iff1 (c : Dev nD) : Scalar.cmpi .ne (Scalar.extui (Scalar.cmpi .sgt (myId c) 1#32)) 0#32 = 1#1 ↔ dv 1 < c := by revert c; decide
theorem receive_iff2 (c : Dev nD) : Scalar.cmpi .ne (Scalar.extui (Scalar.cmpi .sgt (myId c) 2#32)) 0#32 = 1#1 ↔ dv 2 < c := by revert c; decide
theorem departed_iff0 (c : Dev nD) : k0_cond13 c = 1#1 ↔ c.val ≤ (0 : Fin 3).val := by revert c; decide
theorem departed_iff1 (c : Dev nD) : k0_cond14 c = 1#1 ↔ c.val ≤ (1 : Fin 3).val := by revert c; decide
theorem departed_iff2 (c : Dev nD) : k0_cond15 c = 1#1 ↔ c.val ≤ (2 : Fin 3).val := by revert c; decide

/-- Where a copy lands, on the devices that make it: the slot of the device it comes from. -/
theorem copy_off {off : Dev nD → Fin 3 → ℕ} (h : ∀ d, off d = ![d.val, 0, 0]) (c : Dev nD) {C : Prop} {i : Fin 3} (hC : C ↔ c.val ≤ i.val) :
    C → off c = ![(sl c).val, 0, 0] := fun hc => by
  have := i.isLt; have := hC.mp hc
  rw [h, sl_val c (by omega)]
theorem copy_sem {off : Dev nD → Fin 1 → ℕ} (h : ∀ d, off d = ![d.val]) (c : Dev nD) {C : Prop} {i : Fin 3} (hC : C ↔ c.val ≤ i.val) :
    C → off c = ![(sl c).val] := fun hc => by
  have := i.isLt; have := hC.mp hc
  rw [h, sl_val c (by omega)]

section Parts
variable (c : Dev nD)

/-- The first part: raise the earlier devices' barriers, load the block. -/
theorem part1_run (Q : (Σ' (d0 : Dev nD) (v2 : BitVec 32) (v3 : Sems sig S_) (v14 : FVec F S1024x512 .f32), FVec F S1x512 .f32) → sProp 𝕄) :
    iprop(records m ρ K ∗ ow c (owed₀ c) ∗ three (fun j => dutyTok EK (barCell (dv j)) 0 c) ∗ three (fun j => slotFree c j) ∗ stg c cc0_stg0_0 (xstg m ρ c)
        ∗ ((ow c (owedS c) ∗ kept c ∗ stg c cc0_stg0_0 (xstg m ρ c))
          -∗ Q ⟨c, myId c, SemArray.scalar (sig.barrier 0 rfl), k0_pay1 (xstg m ρ c), k0_pay2 (xstg m ρ c)⟩))
      ⊢ wpc c (k0_part1 xM (Memref.isWhole_whole _) oM (Memref.isWhole_whole _) sM (Memref.isWhole_whole _) rM (Memref.isWhole_whole _) pM (Memref.isWhole_whole _)
          cc0_scratch3 cc0_scratch4) Q := by
  simp only [k0_part1_eq_skeleton]; unfold k0_part1_skel
  simp only [semSignalWord, semWaitWord, Prog.lift, Prog.bind_op, Prog.bind_ret, Prog.pure_eq_ret, wpc, wp_deviceId]
  unfold owed₀
  iintro ⟨#HR, HO, ⟨Ht0, Ht1, Ht2⟩, ⟨Hs0, Hs1, Hs2⟩, Hx, Hk⟩
  iapply (wp_raise m ρ K c 0 (raise_iff0 c) (fun _ => rfl) rfl (owedS c + sigT c 2 + sigT c 1)) $$ [HO Ht0 Hs0]
  · isplitr; · iexact HR
    isplitl [HO]; · iexact HO
    isplitl [Ht0] <;> iassumption
  iintro ⟨HO, Hs0⟩
  iapply (wp_raise m ρ K c 1 (raise_iff1 c) (fun _ => rfl) rfl (owedS c + sigT c 2)) $$ [HO Ht1 Hs1]
  · isplitr; · iexact HR
    isplitl [HO]; · iexact HO
    isplitl [Ht1] <;> iassumption
  iintro ⟨HO, Hs1⟩
  iapply (wp_raise m ρ K c 2 (raise_iff2 c) (fun _ => rfl) rfl (owedS c)) $$ [HO Ht2 Hs2]
  · isplitr; · iexact HR
    isplitl [HO]; · iexact HO
    isplitl [Ht2] <;> iassumption
  iintro ⟨HO, Hs2⟩
  iapply (wp_load 𝒱₀ (c : Thread nD τ) none Set.univ (m := xM) (Finset.subset_univ _)) $$ Hx; iintro Hx
  rw [read_x, wp_ret]; imodintro
  iapply Hk
  isplitl [HO]; · iexact HO
  isplitl [Hs0 Hs1 Hs2]
  · unfold kept
    isplitl [Hs0]; · iexact Hs0
    isplitl [Hs1]; · iexact Hs1
    iexact Hs2
  iexact Hx

/-- After the copies are started: copy `i`'s departure to wait for, or its share of the send buffer still there. -/
def started : sProp 𝕄 := three (fun i => if c.val ≤ i.val then cred (tallyAt (sendCell c i) () N) else sPts c (shareOf i) (tot m ρ c))

/-- The second part: store the product, wait for the barrier, start the copies. -/
theorem part2_run (v14 : FVec F S1024x512 .f32) (Q : (Σ' (v77 : FVec F S128x8x512 .f32), IVec S128x8x512 1) → sProp 𝕄) :
    iprop(records m ρ K ∗ levAts L lv ∗ ow c (owedS c) ∗ atPos EK (barCell c) 0 ∅ 0 ∗ cred (tallyAt (barCell c) () (3 - c.val))
        ∗ three (fun i => dutyTok EK (sendCell c i) 0 c) ∗ three (fun i => dutyTok EK (recvCell (dn i) (sl c)) 0 c)
        ∗ (∃ f : Buf (Elt F) ((c : Thread nD τ).loc cc0_scratch0), ((c : Thread nD τ).loc cc0_scratch0) ↦{fullShare} f)
        ∗ ((ow c 0 ∗ semVal (barCell c) 0 ∗ started m ρ c) -∗ Q ⟨k0_pay4 v14, k0_pay5⟩))
      ⊢ wpc c (k0_part2 xM (Memref.isWhole_whole _) oM (Memref.isWhole_whole _) sM (Memref.isWhole_whole _) rM (Memref.isWhole_whole _) pM (Memref.isWhole_whole _)
          cc0_scratch3 cc0_scratch4 c (myId c) (SemArray.scalar (sig.barrier 0 rfl)) v14 (k0_pay2 (xstg m ρ c))) Q := by
  simp only [k0_part2_eq_skeleton]; unfold k0_part2_skel
  simp only [semSignalWord, semWaitWord, Prog.lift, Prog.bind_op, Prog.bind_ret, Prog.pure_eq_ret, wpc]
  unfold owedS
  iintro ⟨#HR, #HL, HO, Hat, Hc, ⟨Hv0, Hv1, Hv2⟩, ⟨Hw0, Hw1, Hw2⟩, ⟨%f, Hs⟩, Hk⟩
  iapply (wp_load 𝒱₀ (c : Thread nD τ) none Set.univ (m := sM) (Finset.subset_univ _)) $$ Hs; iintro Hs
  iapply (wp_store 𝒱₀ (c : Thread nD τ) none Set.univ (m := sM) (r := pR) (Mk := Finset.univ) (Finset.subset_univ _)) $$ Hs; iintro Hs
  rw [write_s]
  ihave Hs := (show (((sM.access pR).loc (c : Thread nD τ)) ↦{fullShare} k0_pay3 (k0_pay2 (xstg m ρ c)) : sProp 𝕄)
      ⊢ three (fun i => sPts c (shareOf i) (tot m ρ c)) from (shares c (tot m ρ c)).1) $$ Hs
  icases Hs with ⟨Hs0, Hs1, Hs2⟩
  iapply (wp_barrier m ρ K c 0 (barrier_iff0 c) rfl) $$ [HO Hat Hc]
  · isplitr; · iexact HR
    isplitr; · iexact HL
    isplitl [HO]; · unfold owedS; iexact HO
    unfold barAt; rw [if_neg (show ¬ c.val < (0 : Fin 3).val from Nat.not_lt_zero _)]
    isplitl [Hat]; · iexact Hat
    iexact Hc
  iintro ⟨HO, Hb⟩
  iapply (wp_barrier m ρ K c 1 (barrier_iff1 c) rfl) $$ [HO Hb]
  · isplitr; · iexact HR
    isplitr; · iexact HL
    isplitl [HO]; · iexact HO
    iexact Hb
  iintro ⟨HO, Hb⟩
  iapply (wp_barrier m ρ K c 2 (barrier_iff2 c) rfl) $$ [HO Hb]
  · isplitr; · iexact HR
    isplitr; · iexact HL
    isplitl [HO]; · iexact HO
    iexact Hb
  iintro ⟨HO, Hb⟩
  imod (bar_end m ρ K c) $$ [Hb] with ⟨Hz, Hg⟩
  · isplitr; · iexact HR
    iexact Hb
  unfold owedS given
  icases Hg with ⟨Hg0, Hg1, Hg2⟩
  iapply (wp_copy m ρ K c 0 (copy_iff0 c) (fun _ => rfl) (copy_off k0_off2_eq c (copy_iff0 c)) (copy_sem k0_off1_eq c (copy_iff0 c)) (0 + sendT c 2 + sendT c 1)) $$ [HO Hs0 Hg0 Hv0 Hw0]
  · isplitr; · iexact HR
    isplitl [HO]; · iexact HO
    isplitl [Hs0]; · iexact Hs0
    isplitl [Hg0]; · iexact Hg0
    isplitl [Hv0]; · iexact Hv0
    iexact Hw0
  iintro ⟨HO, Hs0⟩
  iapply (wp_copy m ρ K c 1 (copy_iff1 c) (fun _ => rfl) (copy_off k0_off4_eq c (copy_iff1 c)) (copy_sem k0_off3_eq c (copy_iff1 c)) (0 + sendT c 2)) $$ [HO Hs1 Hg1 Hv1 Hw1]
  · isplitr; · iexact HR
    isplitl [HO]; · iexact HO
    isplitl [Hs1]; · iexact Hs1
    isplitl [Hg1]; · iexact Hg1
    isplitl [Hv1]; · iexact Hv1
    iexact Hw1
  iintro ⟨HO, Hs1⟩
  iapply (wp_copy m ρ K c 2 (copy_iff2 c) (fun _ => rfl) (copy_off k0_off6_eq c (copy_iff2 c)) (copy_sem k0_off5_eq c (copy_iff2 c)) 0) $$ [HO Hs2 Hg2 Hv2 Hw2]
  · isplitr; · iexact HR
    isplitl [HO]; · iexact HO
    isplitl [Hs2]; · iexact Hs2
    isplitl [Hg2]; · iexact Hg2
    isplitl [Hv2]; · iexact Hv2
    iexact Hw2
  iintro ⟨HO, Hs2⟩
  unfold wpc
  rw [wp_ret]; imodintro
  iapply Hk
  isplitl [HO]; · iexact HO
  isplitl [Hz]; · iexact Hz
  unfold started
  isplitl [Hs0]; · iexact Hs0
  isplitl [Hs1]; · iexact Hs1
  iexact Hs2

omit c in
theorem part3_run (c : Dev nD) (v77 : FVec F S128x8x512 .f32) (v79 : IVec S128x8x512 1)
    (Q : (Σ' (v82 : FVec F S128x8x512 .f32) (v120 : FVec F S128x512 .f32) (v122 : IVec S128x512 1), BitVec 32) → sProp 𝕄) :
    Q ⟨k0_pay6 v77 v79, k0_pay7 v77 v79, k0_pay8, 1#32⟩
      ⊢ wpc c (k0_part3 xM (Memref.isWhole_whole _) oM (Memref.isWhole_whole _) sM (Memref.isWhole_whole _) rM (Memref.isWhole_whole _) pM (Memref.isWhole_whole _)
          cc0_scratch3 cc0_scratch4 v77 v79) Q := by
  simp only [k0_part3_eq_skeleton]; unfold k0_part3_skel
  simp only [Prog.pure_eq_ret, wpc]
  iintro H
  rw [wp_ret]; imodintro
  iexact H

/-- The fourth part: multiply in what the earlier devices send, store the result, wait for two departures. -/
theorem part4_run (v82 : FVec F S128x8x512 .f32) (v120 : FVec F S128x512 .f32) (v122 : IVec S128x512 1) (w : BitVec 32)
    (Q : (Σ' (v155 : BitVec 32), BitVec 32) → sProp 𝕄) :
    iprop(records m ρ K ∗ ow c 0 ∗ three (fun j => atPos EK (recvCell c j) 0 ∅ 0) ∗ three (fun j => cred (tallyAt (recvCell c j) () (if dv j < c then N else 0)))
        ∗ kept c ∗ (∃ f, pPts c f) ∗ (∃ X, stg c cc0_stg1_0 X) ∗ started m ρ c ∗ atPos EK (sendCell c 0) 0 ∅ 0 ∗ atPos EK (sendCell c 1) 0 ∅ 0
        ∗ ((ow c 0 ∗ three (fun j => semVal (recvCell c j) 0) ∗ three (fun j => slotFree c j) ∗ (∃ f, pPts c f)
            ∗ stg c cc0_stg1_0 (k0_pay13 v82 v120 v122 w (before m ρ c))
            ∗ (sPts c (shareOf 0) (tot m ρ c) ∗ sPts c (shareOf 1) (tot m ρ c) ∗ (if c.val ≤ 2 then cred (tallyAt (sendCell c 2) () N) else sPts c (shareOf 2) (tot m ρ c)))
            ∗ semVal (sendCell c 0) 0 ∗ semVal (sendCell c 1) 0)
          -∗ ∀ r, Q r))
      ⊢ wpc c (k0_part4 xM (Memref.isWhole_whole _) oM (Memref.isWhole_whole _) sM (Memref.isWhole_whole _) rM (Memref.isWhole_whole _) pM (Memref.isWhole_whole _)
          cc0_scratch3 cc0_scratch4 c (myId c) v82 v120 v122 w) Q := by
  simp only [k0_part4_eq_skeleton]; unfold k0_part4_skel
  simp only [semSignalWord, semWaitWord, Prog.lift, Prog.bind_op, Prog.bind_ret, Prog.pure_eq_ret, wpc]
  unfold kept
  iintro ⟨#HR, HO, ⟨Ha0, Ha1, Ha2⟩, ⟨Hc0, Hc1, Hc2⟩, ⟨Hs0, Hs1, Hs2⟩, ⟨%f, Hp⟩, ⟨%X, Ho⟩, Hst, Hd0, Hd1, Hk⟩
  unfold pPts
  iapply (wp_load 𝒱₀ (c : Thread nD τ) none Set.univ (m := pM) (Finset.subset_univ _)) $$ Hp; iintro Hp
  iapply (wp_store 𝒱₀ (c : Thread nD τ) none Set.univ (m := pM) (r := pR) (Mk := Finset.univ) (Finset.subset_univ _)) $$ Hp; iintro Hp
  rw [write_p]
  iapply (wp_receive m ρ K c 0 (receive_iff0 c) k0_pay9 rfl) $$ [HO Ha0 Hc0 Hs0 Hp]
  · isplitr; · iexact HR
    isplitl [HO]; · iexact HO
    isplitl [Ha0]; · iexact Ha0
    isplitl [Hc0]; · iexact Hc0
    isplitl [Hs0]; · iexact Hs0
    unfold pPts; iexact Hp
  iintro ⟨HO, Hz0, Hs0, Hp⟩
  iapply (wp_receive m ρ K c 1 (receive_iff1 c) _ (pay := k0_pay11) rfl) $$ [HO Ha1 Hc1 Hs1 Hp]
  · isplitr; · iexact HR
    isplitl [HO]; · iexact HO
    isplitl [Ha1]; · iexact Ha1
    isplitl [Hc1]; · iexact Hc1
    isplitl [Hs1]; · iexact Hs1
    iexact Hp
  iintro ⟨HO, Hz1, Hs1, Hp⟩
  iapply (wp_receive m ρ K c 2 (receive_iff2 c) _ (pay := k0_pay12) rfl) $$ [HO Ha2 Hc2 Hs2 Hp]
  · isplitr; · iexact HR
    isplitl [HO]; · iexact HO
    isplitl [Ha2]; · iexact Ha2
    isplitl [Hc2]; · iexact Hc2
    isplitl [Hs2]; · iexact Hs2
    iexact Hp
  iintro ⟨HO, Hz2, Hs2, Hp⟩
  unfold pPts
  iapply (wp_load 𝒱₀ (c : Thread nD τ) none Set.univ (m := pM) (Finset.subset_univ _)) $$ Hp; iintro Hp
  rw [read_p]
  iapply (wp_load 𝒱₀ (c : Thread nD τ) none Set.univ (m := oM) (Finset.subset_univ _)) $$ Ho; iintro Ho
  iapply (wp_store 𝒱₀ (c : Thread nD τ) none Set.univ (m := oM) (r := bR) (Mk := Finset.univ) (Finset.subset_univ _)) $$ Ho; iintro Ho
  rw [write_o]
  unfold started
  icases Hst with ⟨Hm0, Hm1, Hm2⟩
  iapply (wp_departed m ρ K c 0 (departed_iff0 c)) $$ [HO Hm0 Hd0]
  · isplitr; · iexact HR
    isplitl [HO]; · iexact HO
    isplitl [Hm0]; · iexact Hm0
    iexact Hd0
  iintro ⟨HO, Hm0, Hy0⟩
  iapply (wp_departed m ρ K c 1 (departed_iff1 c)) $$ [HO Hm1 Hd1]
  · isplitr; · iexact HR
    isplitl [HO]; · iexact HO
    isplitl [Hm1]; · iexact Hm1
    iexact Hd1
  iintro ⟨HO, Hm1, Hy1⟩
  unfold wpc
  rw [wp_ret]; imodintro
  ispecialize Hk $$ [HO Hz0 Hz1 Hz2 Hs0 Hs1 Hs2 Hp Ho Hm0 Hm1 Hm2 Hy0 Hy1]
  · isplitl [HO]; · iexact HO
    isplitl [Hz0 Hz1 Hz2]
    · isplitl [Hz0]; · iexact Hz0
      isplitl [Hz1]; · iexact Hz1
      iexact Hz2
    isplitl [Hs0 Hs1 Hs2]
    · isplitl [Hs0]; · iexact Hs0
      isplitl [Hs1]; · iexact Hs1
      iexact Hs2
    isplitl [Hp]; · iexists _; iexact Hp
    isplitl [Ho]; · unfold before; iexact Ho
    isplitl [Hm0 Hm1 Hm2]
    · isplitl [Hm0]; · iexact Hm0
      isplitl [Hm1]; · iexact Hm1
      iexact Hm2
    isplitl [Hy0]; · iexact Hy0
    iexact Hy1
  iapply Hk

end Parts

/-! ## The whole program -/

/-- The elements of receive slot `j`. -/
def slotSet (j : Fin 3) : Finset S3x1x512.Idx := (slotR j).set

/-- The receive buffer is its three slots. -/
theorem slot_disjoint (j j' : Fin 3) (h : j ≠ j') : Disjoint (slotSet j) (slotSet j') :=
  Ring.lead_disjoint (s := S3x1x512) (0 : Fin 3) 1 (fun j : Fin 3 => (![j.val, 0, 0] : Fin 3 → ℕ)) S1x1x512.size slot_inb (fun j => by simp) rfl j j' h
theorem slot_cover : Finset.univ.biUnion slotSet = Finset.univ :=
  Ring.lead_cover (s := S3x1x512) (0 : Fin 3) 1 (fun j : Fin 3 => (![j.val, 0, 0] : Fin 3 → ℕ)) S1x1x512.size slot_inb (fun j => by simp)
    (fun j a ha => by fin_cases a <;> first | rfl | exact absurd rfl ha) rfl (fun a ha => by fin_cases a <;> first | rfl | exact absurd rfl ha) rfl

omit [FloatOps F] in
theorem slotP_eq (c : Dev nD) (j : Fin 3) (f : Buf (Elt F) ((c : Thread nD τ).loc cc0_scratch1)) :
    slotP c j f = (((c : Thread nD τ).loc cc0_scratch1) ↦[slotSet j]{fullShare} f : sProp 𝕄) := by
  unfold slotP
  rw [show (slotM j).view.set = slotSet j from
    (View.set_reshape (v := rM.view.slice (slotR j)) squeezes_S1x1x512_S1x512.numel_eq).trans (View.set_slice_whole cc0_scratch1 (slotR j))]

omit [FloatOps F] in
theorem slots_of (c : Dev nD) :
    iprop(∃ f : Buf (Elt F) ((c : Thread nD τ).loc cc0_scratch1), ((c : Thread nD τ).loc cc0_scratch1) ↦{fullShare} f) ⊢ (three (fun j => slotFree c j) : sProp 𝕄) := by
  unfold slotFree
  exact Ring.slots3_split (U := UU) (ℓ := (c : Thread nD τ).loc cc0_scratch1) (q := fullShare) slotSet slot_disjoint slot_cover
    (slotP c 0) (slotP c 1) (slotP c 2) (slotP_eq c 0) (slotP_eq c 1) (slotP_eq c 2)
theorem of_slots (c : Dev nD) :
    (three (fun j => slotFree c j) : sProp 𝕄) ⊢ iprop(∃ f : Buf (Elt F) ((c : Thread nD τ).loc cc0_scratch1), ((c : Thread nD τ).loc cc0_scratch1) ↦{fullShare} f) := by
  unfold slotFree
  exact Ring.slots3_join (U := UU) (ℓ := (c : Thread nD τ).loc cc0_scratch1) (q := fullShare) slotSet slot_disjoint slot_cover
    (slotP c 0) (slotP c 1) (slotP c 2) (slotP_eq c 0) (slotP_eq c 1) (slotP_eq c 2)

/-- Device `c`'s program, from what the launch gives it. -/
theorem sound_body (c : Dev nD) (Q : PUnit → sProp 𝕄) :
    iprop((records m ρ K ∗ places c ∗ rights c) ∗ claims c ∗ levAts L lv ∗ buffers c ∗ ow c (owed₀ c)
        ∗ stg c cc0_stg0_0 (xstg m ρ c) ∗ (∃ X, stg c cc0_stg1_0 X)
        ∗ ((Φ₁ c ∗ ow c 0 ∗ stg c cc0_stg0_0 (xstg m ρ c) ∗ stg c cc0_stg1_0 (outAt m ρ c)) -∗ Q ⟨⟩))
      ⊢ wpc c (cc0_body xM (Memref.isWhole_whole _) oM (Memref.isWhole_whole _) sM (Memref.isWhole_whole _) rM (Memref.isWhole_whole _) pM (Memref.isWhole_whole _)
          cc0_scratch3 cc0_scratch4) Q := by
  simp only [cc0_body_eq_skeleton]; unfold cc0_body_skel
  simp only [wpc, wp_bind]
  unfold places rights claims buffers
  iintro ⟨⟨#HR, ⟨HaB, ⟨HaS0, HaS1, HaS2⟩, HaV⟩, HtB, HtS, HtV⟩, ⟨HcB, HcV⟩, #HL, ⟨Hs, Hr, Hp⟩, HO, Hx, Ho, Hk⟩
  ihave Hr := (slots_of (F := F) c) $$ Hr
  iapply (part1_run m ρ K c _)
  isplitr; · iexact HR
  isplitl [HO]; · iexact HO
  isplitl [HtB]; · iexact HtB
  isplitl [Hr]; · iexact Hr
  isplitl [Hx]; · iexact Hx
  iintro ⟨HO, Hr, Hx⟩
  dsimp only
  iapply (part2_run m ρ K c _ _)
  isplitr; · iexact HR
  isplitr; · iexact HL
  isplitl [HO]; · iexact HO
  isplitl [HaB]; · iexact HaB
  isplitl [HcB]; · iexact HcB
  isplitl [HtS]; · iexact HtS
  isplitl [HtV]; · iexact HtV
  isplitl [Hs]; · iexact Hs
  iintro ⟨HO, Hz, Hst⟩
  dsimp only
  iapply (part3_run c _ _ _)
  dsimp only
  iapply (part4_run m ρ K c _ _ _ _ _)
  isplitr; · iexact HR
  isplitl [HO]; · iexact HO
  isplitl [HaV]; · iexact HaV
  isplitl [HcV]; · iexact HcV
  isplitl [Hr]; · iexact Hr
  isplitl [Hp]; · unfold pPts; iexact Hp
  isplitl [Ho]; · iexact Ho
  isplitl [Hst]; · iexact Hst
  isplitl [HaS0]; · iexact HaS0
  isplitl [HaS1]; · iexact HaS1
  iintro ⟨HO, HzV, Hr, Hp, Ho, ⟨Hs0, Hs1, Hs2⟩, Hz0, Hz1⟩ %r
  obtain ⟨a, b⟩ := r
  simp only [Prog.lift, Prog.bind_op, Prog.bind_ret, Prog.pure_eq_ret]
  iapply (wp_departed m ρ K c 2 (departed_iff2 c)) $$ [HO Hs2 HaS2]
  · isplitr; · iexact HR
    isplitl [HO]; · iexact HO
    isplitl [Hs2]; · iexact Hs2
    iexact HaS2
  iintro ⟨HO, Hs2, Hz2⟩
  unfold wpc
  rw [wp_ret]; imodintro
  iapply Hk
  unfold Φ₁ buffers outAt
  isplitr [HO Hx Ho]
  · isplitl [Hs0 Hs1 Hs2 Hr Hp]
    · isplitl [Hs0 Hs1 Hs2]
      · iexists (tot m ρ c)
        iapply (shares c (tot m ρ c)).2
        isplitl [Hs0]; · iexact Hs0
        isplitl [Hs1]; · iexact Hs1
        iexact Hs2
      isplitl [Hr]; · iapply (of_slots (F := F) c); iexact Hr
      unfold pPts; iexact Hp
    isplitl [Hz]; · iexact Hz
    isplitl [Hz0 Hz1 Hz2]
    · isplitl [Hz0]; · iexact Hz0
      isplitl [Hz1]; · iexact Hz1
      iexact Hz2
    iexact HzV
  isplitl [HO]; · iexact HO
  isplitl [Hx]; · iexact Hx
  iexact Ho

/-! ## The obligation of the launch -/

theorem cfg0_N : cfg0.N = 1 := by decide
def t₀ : Fin cfg0.N := ⟨0, by rw [cfg0_N]; decide⟩
theorem only_point (t : Fin cfg0.N) : t = t₀ := by
  obtain ⟨t, ht⟩ := t; have := cfg0_N; exact Fin.ext (by simp only [t₀]; omega)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ stg c b f) := by
  unfold owns; simp only [Memref.view_whole, View.read_whole, View.set_whole]

omit [FloatOps F] in
theorem both (Φ : Fin cfg0.W → sProp 𝕄) : bigSep Finset.univ Φ = iprop(Φ (0 : Fin 2) ∗ Φ (1 : Fin 2)) := bigSep_W0 Φ

theorem fetched (t : Fin cfg0.N) : (cfg0.win (0 : Fin 2)).fetch t = true := by rw [only_point t]; rfl

/-- A staging buffer as the launch states it. -/
abbrev held (c : Dev nD) (b : Ref sig .tc) (X : b.ty.Contents (Elt F)) : sProp 𝕄 := iprop(∃ f : Buf (Elt F) ((c : Thread nD τ).loc b), ⌜f = X⌝ ∗ stg c b f)

set_option maxRecDepth 4000 in
/-- The launch's obligation on device `c`: its one run of the program. -/
theorem body_obligation (c : Dev nD) : BodyObligation (dats (F := F) m ρ 0 c) (defs₀ (F := F)) 𝒱₀ () Set.univ := fun t => by
  rw [only_point t]
  rw [both, both]
  simp only [owns_whole_eq]
  show iprop(Φ₀ m ρ c ∗ (dats m ρ 0 c).owesAt () t₀.castSucc
      ∗ (∃ d, held c cc0_stg0_0 ((dats m ρ 0 c).before (0 : Fin 2) t₀ d)) ∗ (∃ d, held c cc0_stg1_0 ((dats m ρ 0 c).before (1 : Fin 2) t₀ d)))
    ⊢ wpc c (cc0_body xM (Memref.isWhole_whole _) oM (Memref.isWhole_whole _) sM (Memref.isWhole_whole _) rM (Memref.isWhole_whole _) pM (Memref.isWhole_whole _)
        cc0_scratch3 cc0_scratch4)
      (fun _ => iprop(Φ₁ c ∗ (dats m ρ 0 c).owesAt () t₀.succ ∗ held c cc0_stg0_0 (xstg m ρ c) ∗ held c cc0_stg1_0 (outAt m ρ c)))
  unfold Φ₀ atStart Dat.owesAt Pipeline.owesWithin
  rw [show (dats m ρ 0 c).owed t₀.castSucc = owed₀ c from rfl, show (dats m ρ 0 c).owed t₀.succ = 0 from rfl]
  iintro ⟨⟨⟨⟨%K, Hg⟩, Hc, HL⟩, Hb⟩, ⟨%W, %hW, HO⟩, ⟨%d0, %g0, %hg0, Hx⟩, ⟨%d1, %g1, %hg1, Ho⟩⟩
  have hx : g0 = xstg m ρ c := by rw [hg0]; unfold Dat.before; rw [if_pos (fetched t₀)]; rfl
  subst hx
  iapply (sound_body m ρ K c _)
  isplitl [Hg]; · iexact Hg
  isplitl [Hc]; · iexact Hc
  isplitl [HL]; · iexact HL
  isplitl [Hb]; · iexact Hb
  isplitl [HO]; · unfold ow; iexists W; iexact HO
  isplitl [Hx]; · iexact Hx
  isplitl [Ho]; · iexists g1; iexact Ho
  iintro ⟨HΦ, HO, Hx, Ho⟩
  isplitl [HΦ]; · iexact HΦ
  isplitl [HO]
  · unfold ow
    icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Ho

end Cert.Cumprod

end
-- ==== Proof.Launch.lean ====
/-
The launch of the four devices' programs.

The launch makes the protocol's ghost state once: for every semaphore its round, and for every semaphore and every
device the right to raise it. Each device gets the rights it uses and its places at its own semaphores, and from what
the devices owe each other the claims it waits by. `run_main` is the whole run: every device ends with its argument
unchanged, its result block in place, and every semaphore at zero.
-/
module

public import proofs.«01_k».proof.Proof.Body
public import Idealize.ShloMosaic.Lib.Pipeline.CollectiveSegs
public import Idealize.ShloMosaic.Lib.Pipeline.ValueKit.Geometry

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## The semaphores the launch hands over -/

/-- The program's own semaphores: the three of its sends, the three of its receives. -/
def osem : Fin 6 → SemLoc sig := ![.dma (sendS 0), .dma (sendS 1), .dma (sendS 2), .dma (recvS 0), .dma (recvS 1), .dma (recvS 2)]

theorem own_facts : Pipeline.OwnSemFacts cfg0.spec osem := by decide

theorem share_full (c : Dev nD) (w : Fin cfg0.W) : (dats m ρ 0 c).share w = fullShare := by unfold Dat.share; split <;> rfl

omit [FloatOps F] in
theorem over_three (Φ : Fin 3 → sProp 𝕄) : bigSep Finset.univ Φ = three Φ := bigSep_univ_eq_bigSepL [0, 1, 2] (by decide) (by decide) Φ
omit [FloatOps F] in
theorem over_unit (Φ : Unit → sProp 𝕄) : bigSep Finset.univ Φ = Φ () := bigSep_univ_eq_bigSepL [()] (by decide) (by decide) Φ
omit [FloatOps F] in
/-- One proposition for each of a device's seven semaphores. -/
theorem over_seven (Φ : CK → sProp 𝕄) :
    bigSep Finset.univ Φ = iprop(Φ (.inl ()) ∗ three (fun i => Φ (.inr (.inl i))) ∗ three (fun j => Φ (.inr (.inr j)))) := by
  rw [bigSep_univ_sum, bigSep_univ_sum, over_unit, over_three, over_three]; rfl

omit [FloatOps F] in
theorem own_sems (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] in
theorem bar_sem (c : Dev nD) : (unscopedSems0 c : sProp 𝕄) = semVal (barCell c) 0 := by
  unfold unscopedSems0; rw [bigSep_eq_bigSepL_of_eq [SemLoc.reg barS] (by decide) (by decide)]; rfl

omit [FloatOps F] in
theorem all_sems (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [own_sems, bar_sem, over_seven]
  iintro ⟨⟨H0, H1, H2, H3, H4, H5⟩, HB⟩
  isplitl [HB]; · iexact HB
  isplitl [H0 H1 H2]
  · isplitl [H0]; · iexact H0
    isplitl [H1]; · iexact H1
    iexact H2
  isplitl [H3]; · iexact H3
  isplitl [H4]; · iexact H4
  iexact H5

/-! ## The protocol's ghost state -/

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  exact congrArg (Prod.mk c) (csem_injective (congrArg Prod.snd h))
def allCells : Finset (GSem nD τ sig) := Finset.univ.map ⟨kcell, kcell_injective⟩

/-- The right of device `x.2` to raise semaphore `x.1`. -/
abbrev tokOf (x : (Dev nD × CK) × Dev nD) : GSem nD τ sig × ℕ × Dev nD := (kcell x.1, 0, x.2)
theorem tokOf_injective : Function.Injective tokOf := fun x y h =>
  Prod.ext (kcell_injective (congrArg Prod.fst h)) (congrArg (fun z : GSem nD τ sig × ℕ × Dev nD => z.2.2) h)
def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- The semaphores whose raising is up to device `c`: the barriers of the first three devices, its own send semaphores,
    and its receive semaphore on each of the last three devices. -/
def raised (c : Dev nD) : Fin 3 ⊕ Fin 3 ⊕ Fin 3 → Dev nD × CK
  | .inl j => (dv j, .inl ())
  | .inr (.inl i) => (c, .inr (.inl i))
  | .inr (.inr i) => (dn i, .inr (.inr (sl c)))
theorem raised_injective : ∀ c, Function.Injective (raised c) := by
  intro c x y h
  have h1 := congrArg (fun z : Dev nD × CK => z.1) h
  have h2 := congrArg (fun z : Dev nD × CK => z.2) h
  rcases x with x | x | x <;> rcases y with y | y | y <;> simp [raised, dv, dn] at h1 h2
  · exact congrArg Sum.inl (Fin.ext h1)
  · exact congrArg (fun a => Sum.inr (Sum.inl a)) h2
  · exact congrArg (fun a => Sum.inr (Sum.inr a)) (Fin.ext (by omega))

omit [FloatOps F] in
/-- A device that may raise every semaphore may raise those that are up to it. -/
theorem rights_of (c : Dev nD) : (bigSep Finset.univ fun ck : Dev nD × CK => (dutyTok EK (kcell ck) 0 c : sProp 𝕄)) ⊢ rights c := by
  refine (bigSep_subset (t := Finset.univ.map ⟨raised c, raised_injective c⟩) (Finset.subset_univ _)).trans ?_
  rw [bigSep_map, bigSep_univ_sum, bigSep_univ_sum, over_three, over_three, over_three]
  exact (Entails.of_eq rfl : (_ : sProp 𝕄) ⊢ rights c)

/-- Device `c`'s part of the ghost state as made. -/
def G (c : Dev nD) : sProp 𝕄 :=
  iprop((bigSep Finset.univ fun k : CK => roundState EK (sched m ρ) (kcell (c, k)) 0)
    ∗ (bigSep Finset.univ fun k : CK => iprop(atPos EK (kcell (c, k)) 0 ∅ 0 ∗ reached EK (kcell (c, k)) 0)) ∗ rights c)

/-- The same once the invariants stand. -/
def G' (c : Dev nD) : sProp 𝕄 := iprop(∃ K, records m ρ K ∗ places c ∗ rights c)

/-- The ghost state, dealt to the devices. -/
theorem fund : BI.own (EK (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok EK x.1 x.2.1 x.2.2 : sProp 𝕄)) ⊢ bigSep Finset.univ fun c : Dev nD => rights c := by
    unfold allToks
    rw [bigSep_map, bigSep_univ_prod]
    refine (Entails.of_eq (BI.bigSep_univ_comm fun (a : Dev nD × CK) (b : Dev nD) => (dutyTok EK (kcell a) 0 b : sProp 𝕄))).trans ?_
    exact bigSep_mono fun c _ => rights_of c
  iintro HX
  imod (Rounds.fund EK (sched m ρ) allCells allToks) $$ HX with ⟨Hst, Hr, Hat, Htok⟩
  imodintro
  ihave Hst' := (Entails.of_eq (hX fun g => roundState EK (sched m ρ) g 0)) $$ Hst
  ihave Hat' := (Entails.of_eq (hX fun g => atPos EK g 0 ∅ 0)) $$ Hat
  ihave Hr' := (Entails.of_eq (hX fun g => reached EK g 0)) $$ Hr
  ihave Htok' := hT $$ Htok
  unfold G; simp only [bigSep_sep']
  isplitl [Hst']; · iexact Hst'
  isplitl [Hat' Hr']
  · isplitl [Hat']; · iexact Hat'
    iexact Hr'
  iexact Htok'

/-- The invariants of one device's semaphores. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EK (sched m ρ) κ (kcell (c, k))))
          ∗ (bigSep Finset.univ fun k => iprop(atPos EK (kcell (c, k)) 0 ∅ 0 ∗ reached EK (kcell (c, k)) 0)) ∗ rights c) := by
  unfold G
  iintro ⟨Hos, Hus, Hst, Hat, Htok⟩
  ihave Hv := (all_sems (F := F) c) $$ [Hos Hus]
  · isplitl [Hos]; · iexact Hos
    iexact Hus
  imod (show iprop((bigSep Finset.univ fun k : CK => semVal (kcell (c, k)) 0) ∗ bigSep Finset.univ fun k : CK => roundState EK (sched m ρ) (kcell (c, k)) 0)
      ⊢ (|={Set.univ}=> bigSep Finset.univ fun k => iprop(∃ κ : ℕ, cellInv EK (sched m ρ) κ (kcell (c, k))) : sProp 𝕄) from by
        rw [← bigSep_sep']
        exact (bigSep_mono fun k _ => (Rounds.body_intro EK (sched m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

omit [FloatOps F] in
theorem with_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem places_of (c : Dev nD) : (bigSep Finset.univ fun k : CK => (atPos EK (kcell (c, k)) 0 ∅ 0 : sProp 𝕄)) ⊢ places c := by
  rw [over_seven]; unfold places; exact .rfl

/-- All the invariants, known to every device. -/
theorem regroup :
    (bigSep Finset.univ fun c : Dev nD => iprop((bigSep Finset.univ fun k => iprop(∃ κ : ℕ, cellInv EK (sched m ρ) κ (kcell (c, k))))
          ∗ (bigSep Finset.univ fun k => iprop(atPos EK (kcell (c, k)) 0 ∅ 0 ∗ reached EK (kcell (c, k)) 0)) ∗ rights c) : sProp 𝕄)
      ⊢ bigSep Finset.univ (G' m ρ) := by
  rw [bigSep_sep', bigSep_sep', ← bigSep_univ_prod (fun ck : Dev nD × CK => iprop(∃ κ : ℕ, cellInv EK (sched m ρ) κ (kcell ck))),
    bigSep_congr (s := Finset.univ) (fun (c : Dev nD) _ => bigSep_sep' Finset.univ (fun k : CK => (atPos EK (kcell (c, k)) 0 ∅ 0 : sProp 𝕄)) (fun k => reached EK (kcell (c, k)) 0)),
    bigSep_sep', ← bigSep_univ_prod (fun ck : Dev nD × CK => (reached EK (kcell ck) 0 : sProp 𝕄))]
  iintro ⟨HI, ⟨Hat, #HR⟩, Htok⟩
  ihave HK := (BI.bigSep_exists_pi Finset.univ (fun (ck : Dev nD × CK) (κ : ℕ) => (cellInv EK (sched m ρ) κ (kcell ck) : sProp 𝕄))) $$ HI
  icases HK with ⟨%K, #HI⟩
  iapply (with_each (R := records m ρ K) (Φ := fun c => iprop((bigSep Finset.univ fun k : CK => (atPos EK (kcell (c, k)) 0 ∅ 0 : sProp 𝕄)) ∗ rights c))
    fun c _ => by
      unfold G'
      iintro ⟨HR, Ha, Ht⟩
      iexists K
      isplitl [HR]; · iexact HR
      isplitl [Ha]; · iapply (places_of (F := F) c); iexact Ha
      iexact Ht)
  isplitr
  · unfold records
    rw [bigSep_sep']
    isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What the devices owe each other -/

/-- What semaphore `k` of device `c` is owed in all. -/
def due (c : Dev nD) : CK → ℕ
  | .inl _ => 3 - c.val
  | .inr (.inl _) => 0
  | .inr (.inr j) => if dv j < c then N else 0

theorem sigT_at (d : Dev nD) (j : Fin 3) (c : Dev nD) (k : CK) : sigT d j (kcell (c, k)) () = if dv j < d ∧ (c, k) = (dv j, Sum.inl ()) then 1 else 0 := by
  unfold sigT
  by_cases h : dv j < d
  · rw [if_pos h, tallyAt_apply]
    refine if_congr ⟨fun h' => ⟨h, kcell_injective (a₁ := (c, k)) (a₂ := (dv j, .inl ())) h'.1⟩, fun h' => ⟨by rw [h'.2], rfl⟩⟩ rfl rfl
  · rw [if_neg h, if_neg fun h' => h h'.1]; rfl
theorem sendT_at (d : Dev nD) (i : Fin 3) (c : Dev nD) (k : CK) :
    sendT d i (kcell (c, k)) () = if d.val ≤ i.val ∧ (c, k) = (dn i, Sum.inr (Sum.inr (sl d))) then N else 0 := by
  unfold sendT
  by_cases h : d.val ≤ i.val
  · rw [if_pos h, tallyAt_apply]
    refine if_congr ⟨fun h' => ⟨h, kcell_injective (a₁ := (c, k)) (a₂ := (dn i, .inr (.inr (sl d)))) h'.1⟩, fun h' => ⟨by rw [h'.2], rfl⟩⟩ rfl rfl
  · rw [if_neg h, if_neg fun h' => h h'.1]; rfl

/-- The devices whose unit barrier `c` waits for; the one whose copy receive semaphore `j` of device `c` waits for. -/
theorem count_bar : ∀ c : Dev nD, (∑ d : Dev nD, ((if dv 2 < d ∧ c = dv 2 then 1 else 0) + (if dv 1 < d ∧ c = dv 1 then 1 else 0) + (if dv 0 < d ∧ c = dv 0 then 1 else 0))) = 3 - c.val := by
  decide
theorem count_recv : ∀ (c : Dev nD) (j : Fin 3),
    (∑ d : Dev nD, ((if d.val ≤ 2 ∧ c = dn 2 ∧ j = sl d then 1 else 0) + (if d.val ≤ 1 ∧ c = dn 1 ∧ j = sl d then 1 else 0) + (if d.val ≤ 0 ∧ c = dn 0 ∧ j = sl d then 1 else 0)))
      = if dv j < c then 1 else 0 := by
  decide

theorem owed_at (d c : Dev nD) (k : CK) : owed₀ d (kcell (c, k)) () =
    sendT d 2 (kcell (c, k)) () + sendT d 1 (kcell (c, k)) () + sendT d 0 (kcell (c, k)) () + sigT d 2 (kcell (c, k)) () + sigT d 1 (kcell (c, k)) () + sigT d 0 (kcell (c, k)) () := by
  unfold owed₀ owedS
  simp only [Pi.add_apply, Finsupp.add_apply, Pi.zero_apply, Finsupp.zero_apply, Nat.zero_add]

theorem due_eq (c : Dev nD) (k : CK) : (∑ d : Dev nD, owed₀ d (kcell (c, k)) ()) = due c k := by
  have e1 (p : Prop) [Decidable p] : (if p then N else 0) = N * (if p then 1 else 0) := by split <;> simp
  simp only [owed_at, sigT_at, sendT_at, Prod.mk.injEq]
  rcases k with u | i | j
  · simp only [reduceCtorEq, and_false, if_false, Nat.zero_add, and_true]
    exact count_bar c
  · simp [due]
  · simp only [reduceCtorEq, and_false, if_false, Nat.add_zero, Sum.inr.injEq, due]
    rw [e1 (dv j < c), ← count_recv, Finset.mul_sum]
    exact Finset.sum_congr rfl fun d _ => by simp only [e1, Nat.mul_add, Fin.val_zero, Fin.val_one, Fin.val_two]

omit [FloatOps F] in
theorem launch_due (c : Dev nD) (k : CK) :
    tallyOn (kcell (c, k)) (launchCredit (Pipeline.owing owed₀) 0 (kcell (c, k))) = (tallyAt (kcell (c, k)) () (due c k) : CellTallies nD τ sig Unit) := by
  unfold tallyAt; refine congrArg _ (Finsupp.ext fun u => ?_); cases u
  rw [Pipeline.launchCredit_owing, Finsupp.single_eq_same, due_eq]

omit [FloatOps F] in
theorem claims_of (c : Dev nD) : (Pipeline.launchCred owed₀ c : sProp 𝕄) ⊢ claims c := by
  unfold Pipeline.launchCred
  refine (bigSep_subset (t := Finset.univ.map ⟨csem, csem_injective⟩) (Finset.subset_univ _)).trans ?_
  rw [bigSep_map]
  refine (Entails.of_eq (bigSep_congr fun k _ => show _ = cred (tallyAt (kcell (c, k)) () (due c k)) from congrArg cred (launch_due c k))).trans ?_
  rw [over_seven]
  unfold claims
  iintro ⟨HB, -, HV⟩
  isplitl [HB]; · iexact HB
  iexact HV

/-! ## The run -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(atStart m ρ c ∗ emp) := by
  iintro ⟨-, Hlev, Hcr, -, HG⟩
  ihave Hc := (claims_of (F := F) c) $$ Hcr
  imodintro
  unfold atStart G'
  isplitl
  · isplitl [HG]; · iexact HG
    isplitl [Hc]; · iexact Hc
    iexact Hlev
  · iempintro

theorem phi0_intro (c : Dev nD) :
    iprop(atStart m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ buffers
  iintro ⟨Hs, -, Hb⟩
  isplitl [Hs]; · iexact Hs
  iexact Hb

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_sems, bar_sem]
  unfold Φ₁ buffers
  iintro ⟨Hb, HB, ⟨H0, H1, H2⟩, H3, H4, H5⟩
  isplitl [HB]; · iexact HB
  isplitl [H0 H1 H2 H3 H4 H5]
  · isplitl [H0]; · iexact H0
    isplitl [H1]; · iexact H1
    isplitl [H2]; · iexact H2
    isplitl [H3]; · iexact H3
    isplitl [H4]; · iexact H4
    iexact H5
  iexact Hb

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds at the end. -/
def finalA (c : Dev nD) (w : Fin cfg0.W) : Buf (Elt F) ((cfg0.win w).arr.view.loc (c : Thread nD τ)) := (dats m ρ 0 c).arrAt w cfg0.N

def ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with all semaphores at zero: every weakly fair execution of the four devices'
    programs terminates, and ends with each device's arrays at the computed contents and every semaphore at zero. -/
theorem run_main : θ_run defs (onTc (τ := τ) (main (F := F))) (start₀ m ρ) (fun r => ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := atStart m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument ends as it began. -/
theorem final_arg (c : Dev nD) : finalA m ρ c (0 : Fin 2) = (start₀ m ρ).mem ((c : Thread nD τ).loc main_arg0) :=
  (dats (F := F) m ρ 0 c).arrAt_in (0 : Fin 2) rfl _

/-- The result ends as the block the program computed. -/
theorem final_res (c : Dev nD) : finalA m ρ c (1 : Fin 2) = outAt m ρ c :=
  (dats (F := F) m ρ 0 c).arrAt_eq_of_after_last (1 : Fin 2) t₀ (by decide +kernel) (outAt m ρ c) fun j => rfl

/-- What the program reads is its block of the argument as the run finds it. -/
theorem xstg_eq (c : Dev nD) : xstg m ρ c = m ((c : Thread nD τ).loc main_arg0) := by
  funext j
  unfold xstg
  rw [View.read_apply]
  show m ((c : Thread nD τ).loc main_arg0) _ = _
  congr 1
  funext a
  apply Fin.ext
  have h : ∀ a : Fin win0_0.shape.rank, win0_0.index (0 : Fin 1) a = 0 := by decide +kernel
  exact Window.rect_emb_val_of_index_zero win0_0 (0 : Fin 1) a (h a) j

end Cert.Cumprod

end
-- ==== Proof.Products.lean ====
/-
Products over runs of consecutive numbers, in any commutative monoid: how a scan by doubling strides builds them, and
how a product over groups is one product. Nothing here is about a program.
-/
module

public import Mathlib.Algebra.BigOperators.Intervals
public import Mathlib.Algebra.BigOperators.Fin

@[expose] public section

namespace Cert.Cumprod

open Finset

variable {M : Type} [CommMonoid M]

/-- The product of `f` over the last `d` numbers up to `i`, over fewer where there are not so many. -/
def window (f : ℕ → M) (d i : ℕ) : M := ∏ k ∈ Ico (i + 1 - d) (i + 1), f k

/-- A window of length one is the element itself. -/
theorem window_one (f : ℕ → M) (i : ℕ) : window f 1 i = f i := by
  rw [window, Nat.add_sub_cancel, Nat.Ico_succ_singleton, prod_singleton]

/-- One stride of the scan doubles the window: where there is an element `d` places earlier its window is multiplied
    in, and elsewhere the window already reaches the start. -/
theorem window_double (f : ℕ → M) (d i : ℕ) :
    (if d ≤ i then window f d i * window f d (i - d) else window f d i) = window f (d + d) i := by
  unfold window
  split
  · rename_i h
    rw [mul_comm, show i - d + 1 = i + 1 - d by omega, prod_Ico_consecutive f (by omega) (by omega),
      show i + 1 - d - d = i + 1 - (d + d) by omega]
  · rename_i h
    rw [show i + 1 - d = 0 by omega, show i + 1 - (d + d) = 0 by omega]

/-- A window that reaches the start is the product of everything up to `i`. -/
theorem window_all (f : ℕ → M) {d i : ℕ} (h : i < d) : window f d i = ∏ k ∈ range (i + 1), f k := by
  rw [window, show i + 1 - d = 0 by omega, range_eq_Ico]

/-- The product of the products of `a` groups of `b` is the product of all of them. -/
theorem prod_groups (f : ℕ → M) (b : ℕ) : ∀ a : ℕ, ∏ j ∈ range a, ∏ k ∈ range b, f (b * j + k) = ∏ k ∈ range (b * a), f k
  | 0 => by simp
  | a + 1 => by rw [prod_range_succ, prod_groups f b a, Nat.mul_succ, prod_range_add]

/-- Multiplying the first half of a list by the second, element by element, keeps the product. -/
theorem prod_halves {h n : ℕ} (hn : h + h = n) (f : Fin n → M) :
    ∏ i : Fin h, f ⟨i.val, by omega⟩ * f ⟨h + i.val, by omega⟩ = ∏ i : Fin n, f i := by
  subst hn
  rw [prod_mul_distrib, Fin.prod_univ_add]
  rfl

end Cert.Cumprod

end
-- ==== Proof.Scan.lean ====
/-
What one device computes from its block, over the exact values: the product of all its rows, and the running products
of its rows times what stands before the block.
-/
module

public import proofs.«01_k».proof.Proof.Gen.KernelIdeal
public import proofs.«01_k».proof.Proof.Gen.KernelIdeal.Skeleton
public import proofs.«01_k».proof.Proof.Products
public import Idealize.ShloMosaic.Lib.ValueIdx
public import Idealize.ShloMosaic.Lib.ValueIdxCoords
public import Idealize.ShloMosaic.Lib.IdealHost
public import Idealize.ShloMosaic.Lib.KernelVsHost
public import Idealize.ShloMosaic.Lib.WordCmp
public import Idealize.ShloMosaic.Lib.Pipeline.Value

@[expose] public section

noncomputable section

namespace Cert.Cumprod

open Cert.KernelIdeal Cert.KernelIdeal.Gen
open Idealize.ShloMosaic Idealize.ShloMosaic.ValueIdx
open Finset

/-- The rows of column `n` of an array of `r` rows, one past the last. -/
def col {r : ℕ} (x : FVec Ideal ⟨2, ![r, 512]⟩ .f32) (n : Fin 512) (k : ℕ) : EReal := if h : k < r then x (ix2 ⟨k, h⟩ n) else 1

/-- A column at a row. -/
theorem col_apply {r : ℕ} (x : FVec Ideal ⟨2, ![r, 512]⟩ .f32) (n : Fin 512) (k : Fin r) : col x n k.val = x (ix2 k n) := dif_pos k.isLt

/-! ## The product of a block's rows -/

/-- Multiplying the upper half of an array by the lower keeps the product of each column. -/
theorem halve_prod {h r : ℕ} (hr : h + h = r) (t : FVec Ideal ⟨2, ![r, 512]⟩ .f32)
    (h0 : (⟨2, ![r, 512]⟩ : Shape).Slices ![0, 0] ⟨2, ![h, 512]⟩) (h1 : (⟨2, ![r, 512]⟩ : Shape).Slices ![h, 0] ⟨2, ![h, 512]⟩) (n : Fin 512) :
    ∏ i : Fin h, (mulf (extractStridedSlice ⟨2, ![h, 512]⟩ ![0, 0] t h0) (extractStridedSlice ⟨2, ![h, 512]⟩ ![h, 0] t h1) : FVec Ideal ⟨2, ![h, 512]⟩ .f32) (ix2 i n)
      = ∏ i : Fin r, t (ix2 i n) := by
  rw [← prod_halves hr fun i => t (ix2 i n)]
  refine Finset.prod_congr rfl fun i _ => ?_
  rw [mulf_apply]
  congr 1
  · exact extractStridedSlice_apply _ _ _ _ _ fun a => by
      match a with
      | ⟨0, _⟩ => exact (Nat.zero_add _).symm
      | ⟨1, _⟩ => exact (Nat.zero_add _).symm
  · exact extractStridedSlice_apply _ _ _ _ _ fun a => by
      match a with
      | ⟨0, _⟩ => rfl
      | ⟨1, _⟩ => exact (Nat.zero_add _).symm

/-- The tree of products is, in each column, the product of the block's rows. -/
theorem total_eq (x : FVec Ideal S1024x512 .f32) (n : Fin 512) :
    (k0_pay3 (F := Ideal) (k0_pay2 x) : FVec Ideal S1x512 .f32) (ix2 (0 : Fin 1) n) = ∏ k ∈ range 1024, col x n k := by
  have e : k0_pay1 (F := Ideal) x = x := shapeCast_self x _
  unfold k0_pay3
  rw [shapeCast_self, ← Fin.prod_univ_one (fun i : Fin 1 => k0_pay2 (F := Ideal) x (ix2 i n)), k0_pay2]
  simp only [e]
  rw [halve_prod (h := 1) (r := 2) rfl, halve_prod (h := 2) (r := 4) rfl, halve_prod (h := 4) (r := 8) rfl, halve_prod (h := 8) (r := 16) rfl,
    halve_prod (h := 16) (r := 32) rfl, halve_prod (h := 32) (r := 64) rfl, halve_prod (h := 64) (r := 128) rfl,
    halve_prod (h := 128) (r := 256) rfl, halve_prod (h := 256) (r := 512) rfl, halve_prod (h := 512) (r := 1024) rfl]
  rw [← Fin.prod_univ_eq_prod_range]
  exact Finset.prod_congr rfl fun i _ => (col_apply x n i).symm

/-! ## One stride of a scan -/

/-- A choice by a comparison of two numbers that fit in a word, read as a choice between the numbers. -/
theorem select_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat ha hb]
  by_cases h : b ≤ a <;> simp [h, Scalar.select]

/-- Where a rotation by `d` reads from at `i`, if nothing wraps around. -/
theorem rotate_back {i n d : ℕ} (hi : i < n) (hd : d ≤ i) : (i + n - d % n) % n = i - d := by
  rw [Nat.mod_eq_of_lt (by omega : d < n), show i + n - d = i - d + n by omega, Nat.add_mod_right, Nat.mod_eq_of_lt (by omega)]

/-- One stride of the scan within the groups of eight doubles every window. -/
theorem row_stride {d : ℕ} (hd : d < 8) (f : Fin 128 → Fin 512 → ℕ → EReal) (t : FVec Ideal S128x8x512 .f32)
    (hi : S128x8x512.Iotas .tc 32 [1]) (hr : S128x8x512.Rotates 1 none)
    (ht : ∀ (g : Fin 128) (r : Fin 8) (n : Fin 512), t (ix3 g r n) = window (f g n) d r.val) (g : Fin 128) (r : Fin 8) (n : Fin 512) :
    (select (cmpi .sge (iota .tc S128x8x512 32 [1] hi) (broadcast S128x8x512 (BitVec.ofNat 32 d)))
      (mulf t (dynamicRotate 1 (BitVec.ofNat 32 d) none t hr)) t : FVec Ideal S128x8x512 .f32) (ix3 g r n) = window (f g n) (d + d) r.val := by
  have hs : (select (cmpi .sge (iota .tc S128x8x512 32 [1] hi) (broadcast S128x8x512 (BitVec.ofNat 32 d)))
      (mulf t (dynamicRotate 1 (BitVec.ofNat 32 d) none t hr)) t : FVec Ideal S128x8x512 .f32) (ix3 g r n)
      = Scalar.select (IntOp.cmpi .sge (BitVec.ofNat 32 (0 * 8 + r.val)) (BitVec.ofNat 32 d))
          (t (ix3 g r n) * dynamicRotate 1 (BitVec.ofNat 32 d) none t hr (ix3 g r n)) (t (ix3 g r n)) := rfl
  rw [hs, Nat.zero_mul, Nat.zero_add, select_sge (by omega) (by omega), ← window_double]
  split
  · rename_i h
    rw [ht, dynamicRotate_apply (s := S128x8x512) 1 (BitVec.ofNat 32 d) t hr (ix3 g r n) (ix3 g ⟨r.val - d, by omega⟩ n) ?_, ht]
    intro b
    match b with
    | ⟨0, _⟩ => rfl
    | ⟨1, _⟩ =>
      show r.val - d = (r.val + 8 - (BitVec.ofNat 32 d).toNat % 8) % 8
      rw [BitVec.toNat_ofNat, Nat.mod_eq_of_lt (by omega : d < 2 ^ 32), rotate_back r.isLt h]
    | ⟨2, _⟩ => rfl
  · exact ht g r n

/-- One stride of the scan over the groups doubles every window. -/
theorem group_stride {d : ℕ} (hd : d < 128) (f : Fin 512 → ℕ → EReal) (t : FVec Ideal S128x512 .f32)
    (hi : S128x512.Iotas .tc 32 [0]) (hr : S128x512.Rotates 0 none)
    (ht : ∀ (g : Fin 128) (n : Fin 512), t (ix2 g n) = window (f n) d g.val) (g : Fin 128) (n : Fin 512) :
    (select (cmpi .sge (iota .tc S128x512 32 [0] hi) (broadcast S128x512 (BitVec.ofNat 32 d)))
      (mulf t (dynamicRotate 0 (BitVec.ofNat 32 d) none t hr)) t : FVec Ideal S128x512 .f32) (ix2 g n) = window (f n) (d + d) g.val := by
  have hs : (select (cmpi .sge (iota .tc S128x512 32 [0] hi) (broadcast S128x512 (BitVec.ofNat 32 d)))
      (mulf t (dynamicRotate 0 (BitVec.ofNat 32 d) none t hr)) t : FVec Ideal S128x512 .f32) (ix2 g n)
      = Scalar.select (IntOp.cmpi .sge (BitVec.ofNat 32 (0 * 128 + g.val)) (BitVec.ofNat 32 d))
          (t (ix2 g n) * dynamicRotate 0 (BitVec.ofNat 32 d) none t hr (ix2 g n)) (t (ix2 g n)) := rfl
  rw [hs, Nat.zero_mul, Nat.zero_add, select_sge (by omega) (by omega), ← window_double]
  split
  · rename_i h
    rw [ht, dynamicRotate_apply (s := S128x512) 0 (BitVec.ofNat 32 d) t hr (ix2 g n) (ix2 ⟨g.val - d, by omega⟩ n) ?_, ht]
    intro b
    match b with
    | ⟨0, _⟩ =>
      show g.val - d = (g.val + 128 - (BitVec.ofNat 32 d).toNat % 128) % 128
      rw [BitVec.toNat_ofNat, Nat.mod_eq_of_lt (by omega : d < 2 ^ 32), rotate_back g.isLt h]
    | ⟨1, _⟩ => rfl
  · exact ht g n

/-! ## The running products -/

/-- The block's rows in groups of eight. -/
theorem grouped (x : FVec Ideal S1024x512 .f32) (h : S1024x512.ShapeCasts S128x8x512) (g : Fin 128) (r : Fin 8) (n : Fin 512) :
    shapeCast S128x8x512 x h (ix3 g r n) = col x n (8 * g.val + r.val) := by
  rw [show 8 * g.val + r.val = (⟨8 * g.val + r.val, by omega⟩ : Fin 1024).val from rfl, col_apply]
  refine shapeCast_apply x h _ _ ?_
  rw [Shape.rowMajor_val_three, Shape.rowMajor_val_two]
  show (8 * g.val + r.val) * 512 + n.val = (g.val * 8 + r.val) * 512 + n.val
  omega

/-- The running products within the groups. -/
theorem within (x : FVec Ideal S1024x512 .f32) (g : Fin 128) (r : Fin 8) (n : Fin 512) :
    (k0_pay6 (F := Ideal) (k0_pay4 (k0_pay1 x)) k0_pay5 (ix3 g r n) : EReal) = ∏ k ∈ range (r.val + 1), col x n (8 * g.val + k) := by
  have e : k0_pay1 (F := Ideal) x = x := shapeCast_self x _
  rw [e, ← window_all (fun k => col x n (8 * g.val + k)) r.isLt]
  refine row_stride (d := 4) (by omega) (fun g n k => col x n (8 * g.val + k)) _ _ _ (fun g r n => ?_) g r n
  refine row_stride (d := 2) (by omega) (fun g n k => col x n (8 * g.val + k)) _ _ _ (fun g r n => ?_) g r n
  refine row_stride (d := 1) (by omega) (fun g n k => col x n (8 * g.val + k)) _ _ _ (fun g r n => ?_) g r n
  rw [window_one]
  exact grouped x _ g r n

/-- The running products over the groups. -/
theorem over (x : FVec Ideal S1024x512 .f32) (g : Fin 128) (n : Fin 512) :
    (k0_pay7 (F := Ideal) (k0_pay4 (k0_pay1 x)) k0_pay5 (ix2 g n) : EReal) = ∏ k ∈ range (8 * (g.val + 1)), col x n k := by
  rw [← prod_groups, ← window_all (fun j => ∏ k ∈ range 8, col x n (8 * j + k)) g.isLt]
  refine group_stride (d := 64) (by omega) (fun n j => ∏ k ∈ range 8, col x n (8 * j + k)) _ _ _ (fun g n => ?_) g n
  refine group_stride (d := 32) (by omega) (fun n j => ∏ k ∈ range 8, col x n (8 * j + k)) _ _ _ (fun g n => ?_) g n
  refine group_stride (d := 16) (by omega) (fun n j => ∏ k ∈ range 8, col x n (8 * j + k)) _ _ _ (fun g n => ?_) g n
  refine group_stride (d := 8) (by omega) (fun n j => ∏ k ∈ range 8, col x n (8 * j + k)) _ _ _ (fun g n => ?_) g n
  refine group_stride (d := 4) (by omega) (fun n j => ∏ k ∈ range 8, col x n (8 * j + k)) _ _ _ (fun g n => ?_) g n
  refine group_stride (d := 2) (by omega) (fun n j => ∏ k ∈ range 8, col x n (8 * j + k)) _ _ _ (fun g n => ?_) g n
  refine group_stride (d := 1) (by omega) (fun n j => ∏ k ∈ range 8, col x n (8 * j + k)) _ _ _ (fun g n => ?_) g n
  rw [window_one]
  refine (shapeCast_apply (s := S128x1x512) (t := S128x512) _ _ (ix2 g n) (ix3 g (0 : Fin 1) n) ?_).trans ?_
  · rw [Shape.rowMajor_val_three, Shape.rowMajor_val_two]
    show (g.val * 1 + 0) * 512 + n.val = g.val * 512 + n.val
    omega
  refine (extractStridedSlice_apply (s := S128x8x512) (t := S128x1x512) _ _ _ (ix3 g (0 : Fin 1) n) (ix3 g (7 : Fin 8) n) fun a => ?_).trans (within x g 7 n)
  match a with
  | ⟨0, _⟩ => exact (Nat.zero_add _).symm
  | ⟨1, _⟩ => rfl
  | ⟨2, _⟩ => exact (Nat.zero_add _).symm

/-- The running products of a block, times `p` of each column: row `8 g + r` of the result is `p` times the product of
    the rows up to it. -/
theorem block_eq (x : FVec Ideal S1024x512 .f32) (p : FVec Ideal S1x512 .f32) (k : Fin 1024) (n : Fin 512) :
    (k0_pay13 (F := Ideal) (k0_pay6 (k0_pay4 (k0_pay1 x)) k0_pay5) (k0_pay7 (k0_pay4 (k0_pay1 x)) k0_pay5) k0_pay8 1#32 p (ix2 k n) : EReal)
      = p (ix2 (0 : Fin 1) n) * ∏ i ∈ range (k.val + 1), col x n i := by
  obtain ⟨g, r, hk⟩ : ∃ (g : Fin 128) (r : Fin 8), k.val = 8 * g.val + r.val :=
    ⟨⟨k.val / 8, by omega⟩, ⟨k.val % 8, by omega⟩, by show k.val = 8 * (k.val / 8) + k.val % 8; omega⟩
  unfold k0_pay13
  rw [truncf_apply]
  refine (shapeCast_apply (s := S128x8x512) (t := S1024x512) _ _ (ix2 k n) (ix3 g r n) ?_).trans ?_
  · rw [Shape.rowMajor_val_three, Shape.rowMajor_val_two]
    show (g.val * 8 + r.val) * 512 + n.val = k.val * 512 + n.val
    omega
  rw [mulf_apply, within]
  have hb : ∀ (y : FVec Ideal S128x512 .f32) (h1 : S128x512.ShapeCasts S128x1x512) (h2 : S128x1x512.Broadcasts S128x8x512),
      broadcastTo S128x8x512 (shapeCast S128x1x512 y h1) h2 (ix3 g r n) = y (ix2 g n) := fun y h1 h2 => by
    refine (broadcastTo_apply (s := S128x1x512) (t := S128x8x512) _ h2 (ix3 g r n) (ix3 g (0 : Fin 1) n) fun a => ?_).trans ?_
    · match a with
      | ⟨0, _⟩ => rfl
      | ⟨1, _⟩ => rfl
      | ⟨2, _⟩ => rfl
    · refine shapeCast_apply (s := S128x512) (t := S128x1x512) y h1 (ix3 g (0 : Fin 1) n) (ix2 g n) ?_
      rw [Shape.rowMajor_val_three, Shape.rowMajor_val_two]
      show g.val * 512 + n.val = (g.val * 1 + 0) * 512 + n.val
      omega
  rw [hb, mulf_apply]
  have hp : ∀ h : S1x512.Broadcasts S128x512, broadcastTo S128x512 p h (ix2 g n) = p (ix2 (0 : Fin 1) n) := fun h =>
    broadcastTo_apply (s := S1x512) (t := S128x512) p h (ix2 g n) (ix2 (0 : Fin 1) n) fun a => by
      match a with
      | ⟨0, _⟩ => rfl
      | ⟨1, _⟩ => rfl
  have he : (select k0_pay8 (dynamicRotate 0 1#32 none (k0_pay7 (k0_pay4 (k0_pay1 x)) k0_pay5) rotates_S128x512_d0)
      (broadcast S128x512 (Scalar.ofBits .f32 0x3F800000#32)) : FVec Ideal S128x512 .f32) (ix2 g n) = ∏ i ∈ range (8 * g.val), col x n i := by
    refine (show _ = Scalar.select (IntOp.cmpi .sge (BitVec.ofNat 32 (0 * 128 + g.val)) (BitVec.ofNat 32 1))
        (dynamicRotate 0 1#32 none (k0_pay7 (k0_pay4 (k0_pay1 x)) k0_pay5) rotates_S128x512_d0 (ix2 g n)) (Ideal.ofBits .f32 0x3F800000#32) from rfl).trans ?_
    rw [Nat.zero_mul, Nat.zero_add, select_sge (by omega) (by omega), Ideal.ofBits_one_f32]
    split
    · rename_i h
      rw [dynamicRotate_apply (s := S128x512) 0 1#32 _ _ (ix2 g n) (ix2 ⟨g.val - 1, by omega⟩ n) ?_, over]
      · show ∏ i ∈ range (8 * (g.val - 1 + 1)), col x n i = _
        rw [show g.val - 1 + 1 = g.val by omega]
      · intro b
        match b with
        | ⟨0, _⟩ => exact (rotate_back (d := 1) g.isLt h).symm
        | ⟨1, _⟩ => rfl
    · rw [show g.val = 0 by omega]; rfl
  rw [hp, he, hk, Nat.add_assoc, prod_range_add _ (8 * g.val) (r.val + 1)]
  exact (mul_comm (G := EReal) _ _).trans ((congrArg (· * _) (mul_comm (G := EReal) _ _)).trans (mul_assoc (G := EReal) _ _ _))

end Cert.Cumprod

end
-- ==== Proof.Reference.lean ====
/-
What the reference computes over the exact values: after `j` trips of its loop the carried row is the product of the
first `j` rows, and the first `j` rows of the stacked array are the running products.
-/
module

public import proofs.«01_k».proof.Proof.Gen.ReferenceIdeal.Run
public import proofs.«01_k».proof.Proof.Scan

@[expose] public section

noncomputable section

namespace Cert.Cumprod

open Cert.ReferenceIdeal Cert.ReferenceIdeal.Gen Cert.ReferenceIdeal.Value
open Idealize.ShloMosaic Idealize.ShloMosaic.TcCoe Idealize.ShloMosaic.ValueIdx Idealize.ShloMosaic.StableHlo Idealize.SL.Sem
open Finset

/-- Where trip `j`'s row starts, read signed and kept inside the array. -/
theorem start_eq {j : ℕ} (hj : j < 4096) : (min (max (BitVec.ofNat 32 j).toInt 0) ((4096 - 1 : Nat) : Int)).toNat = j := by
  rw [BitVec.toInt_eq_toNat_of_lt (by rw [BitVec.toNat_ofNat]; omega), BitVec.toNat_ofNat, Nat.mod_eq_of_lt (by omega)]
  omega

/-- Reading one row of an array at row `j`. -/
theorem read_row {α : Type} {j : ℕ} (hj : j < 4096) (t : S4096x512.Idx → α) (start : Fin 2 → Int) (h0 : start 0 = (BitVec.ofNat 32 j).toInt)
    (h1 : start 1 = 0) (h : S4096x512.Slices (fun _ => 0) S1x512) (n : Fin 512) :
    Host.dynamicSlice S1x512 t start h (ix2 (0 : Fin 1) n) = t (ix2 (⟨j, hj⟩ : Fin 4096) n) := by
  have e0 : (min (max (start 0) 0) ((4096 - 1 : Nat) : Int)).toNat = j := by rw [h0]; exact start_eq hj
  have e1 : (min (max (start 1) 0) ((512 - 512 : Nat) : Int)).toNat = 0 := by rw [h1]; rfl
  unfold Host.dynamicSlice extractStridedSlice
  refine congrArg t (funext fun a => Fin.ext ?_)
  match a with
  | ⟨0, _⟩ =>
    show (min (max (start 0) 0) ((4096 - 1 : Nat) : Int)).toNat + 0 = j
    omega
  | ⟨1, _⟩ =>
    show (min (max (start 1) 0) ((512 - 512 : Nat) : Int)).toNat + n.val = n.val
    omega

/-- What the loop's buffers hold before trip `j`, of the argument `x`. -/
structure Before (x : FVec Ideal S4096x512 .f32) (j : ℕ) (V : Valuation τ sig (Elt Ideal)) : Prop where
  /-- The argument is there still, -/
  arg : V (Proc.devRef .tc main_v2_0) = x
  /-- the counter is the trip's number, -/
  ctr : V (Proc.devRef .tc main_v2_1) = fun _ => BitVec.ofNat 32 j
  /-- the carried row is the product of the first `j` rows, -/
  carried : ∀ n : Fin 512, V (Proc.devRef .tc main_v2_2) (ix1 n) = (∏ k ∈ range j, col x n k : EReal)
  /-- and the first `j` rows of the stacked array are the running products. -/
  stacked : ∀ (k : Fin 4096) (n : Fin 512), k.val < j → V (Proc.devRef .tc main_v2_3) (ix2 k n) = (∏ i ∈ range (k.val + 1), col x n i : EReal)

variable {x : FVec Ideal S4096x512 .f32} {j : ℕ} {V : Valuation τ sig (Elt Ideal)}

/-- Trip `j` multiplies row `j` of the argument into the carried row. -/
theorem carried_step (hj : j < 4096) (h : Before x j V) (n : Fin 512) : res_main_while0b_v5 V (ix1 n) = (∏ k ∈ range (j + 1), col x n k : EReal) := by
  unfold res_main_while0b_v5
  rw [h.arg, h.ctr]
  refine (congrArg₂ (fun a b : EReal => a * b) (h.carried n) ?_).trans (prod_range_succ _ _).symm
  rw [show j = (⟨j, hj⟩ : Fin 4096).val from rfl, col_apply]
  refine (shapeCast_apply (s := S1x512) (t := S512) _ shapeCasts_S1x512_S512 (ix1 n) (ix2 (0 : Fin 1) n) ?_).trans ?_
  · rw [Shape.rowMajor_val_two, Shape.rowMajor_val_one]
    show 0 * 512 + n.val = n.val
    omega
  exact read_row hj x _ rfl rfl _ n

/-- Writing one row into an array at row `j`: that row is the new one, the others are as before. -/
theorem write_row {α : Type} (hj : j < 4096) (t : S4096x512.Idx → α) (u : S1x512.Idx → α) (start : Fin 2 → Int) (h0 : start 0 = (BitVec.ofNat 32 j).toInt)
    (h1 : start 1 = 0) (h : S4096x512.Slices (fun _ => 0) S1x512) (k : Fin 4096) (n : Fin 512) :
    Host.dynamicUpdateSlice t u start h (ix2 k n) = if k.val = j then u (ix2 (0 : Fin 1) n) else t (ix2 k n) := by
  have e0 : (min (max (start 0) 0) ((4096 - 1 : Nat) : Int)).toNat = j := by rw [h0]; exact start_eq hj
  have e1 : (min (max (start 1) 0) ((512 - 512 : Nat) : Int)).toNat = 0 := by rw [h1]; rfl
  unfold Host.dynamicUpdateSlice updateSlice
  split
  · rename_i hin
    have h' : (min (max (start 0) 0) ((4096 - 1 : Nat) : Int)).toNat ≤ k.val ∧ k.val < (min (max (start 0) 0) ((4096 - 1 : Nat) : Int)).toNat + 1 := hin 0
    rw [e0] at h'
    rw [if_pos (by omega)]
    refine congrArg u (funext fun b => Fin.ext ?_)
    match b with
    | ⟨0, _⟩ =>
      show k.val - (min (max (start 0) 0) ((4096 - 1 : Nat) : Int)).toNat = 0
      omega
    | ⟨1, _⟩ =>
      show n.val - (min (max (start 1) 0) ((512 - 512 : Nat) : Int)).toNat = n.val
      omega
  · rename_i hin
    rw [if_neg]
    rintro rfl
    refine hin fun a => ?_
    match a with
    | ⟨0, _⟩ =>
      show (min (max (start 0) 0) ((4096 - 1 : Nat) : Int)).toNat ≤ k.val ∧ k.val < (min (max (start 0) 0) ((4096 - 1 : Nat) : Int)).toNat + 1
      omega
    | ⟨1, _⟩ =>
      show (min (max (start 1) 0) ((512 - 512 : Nat) : Int)).toNat ≤ n.val ∧ n.val < (min (max (start 1) 0) ((512 - 512 : Nat) : Int)).toNat + 512
      omega

/-- One trip. -/
theorem before_step (hj : j < 4096) (h : Before x j V) : Before x (j + 1) (STEP V) where
  arg := (STEP_main_v2_0 V).trans h.arg
  ctr := by
    rw [STEP_main_v2_1, step_main_v2_1, h.ctr]
    funext i
    show BitVec.ofNat 32 j + 1#32 = BitVec.ofNat 32 (j + 1)
    rw [BitVec.ofNat_add]
  carried n := by
    rw [STEP_main_v2_2, step_main_v2_2]
    exact carried_step hj h n
  stacked k n hk := by
    rw [STEP_main_v2_3, step_main_v2_3, h.ctr]
    refine (write_row hj _ _ _ rfl rfl _ k n).trans ?_
    split
    · rename_i e
      rw [e]
      refine (broadcastInDim_apply (s := S512) (t := S1x512) ![1] bcast_S512_S1x512_1 _ (ix2 (0 : Fin 1) n) (ix1 n) fun a => ?_).trans (carried_step hj h n)
      match a with
      | ⟨0, _⟩ => rfl
    · exact h.stacked k n (by omega)

variable (m : (ℓ : Loc nD τ sig) → Buf (Elt Ideal) ℓ) (c : Dev nD)

/-- What the host prepares before the loop. -/
theorem before_zero : Before (m ((c.tc : Thread nD τ).loc main_arg0)) 0 (entryContents preI m c) where
  arg := by
    simp only [entryContents, afterL_cons, afterL_nil]
    after_reads_simp
    rfl
  ctr := ctr_entry m c
  carried n := by
    have e : entryContents preI m c (Proc.devRef .tc main_v2_2) = broadcastInDim S512 ![] bcast_S_S512 (constant (F := Ideal) S_ .f32 0x3F800000#32) := by
      simp only [entryContents, afterL_cons, afterL_nil]
      after_reads_simp
      rfl
    rw [e]
    exact Ideal.ofBits_one_f32
  stacked k n hk := absurd hk (Nat.not_lt_zero _)

/-- The buffers before every trip, and after the last. -/
theorem before_iter : ∀ j ≤ 4096, Before (m ((c.tc : Thread nD τ).loc main_arg0)) j (STEP^[j] (entryContents preI m c))
  | 0, _ => before_zero m c
  | j + 1, h => by
    rw [Function.iterate_succ_apply']
    exact before_step (by omega) (before_iter j (by omega))

/-- The running products of the rows of an array. -/
def running (x : FVec Ideal S4096x512 .f32) : FVec Ideal S4096x512 .bf16 := fun i => (∏ k ∈ range ((i 0).val + 1), col x (i 1) k : EReal)

/-- The reference's result is the running products of its argument. -/
theorem reference_result : out_main_v3 (STEP^[4096] (entryContents preI m c)) = running (m ((c.tc : Thread nD τ).loc main_arg0)) := by
  funext i
  rw [eq_ix2 i]
  exact (before_iter m c 4096 le_rfl).stacked (i 0) (i 1) (i 0).isLt

/-- The reference ends with its result the running products of its argument, and the argument unchanged. -/
theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = running (m ((c.tc : Thread nD τ).loc main_arg0))
      ∧ r.2.mem ((c.tc : Thread nD τ).loc main_arg0) = m ((c.tc : Thread nD τ).loc main_arg0) :=
  (θ_run defs _ _).mono (fun _ h c => ⟨(h c).1.trans (reference_result m c), (h c).2⟩) (Cert.ReferenceIdeal.Value.run m ρ)

end Cert.Cumprod

end
-- ==== Proof.Value.lean ====
/-
The kernel's result over the exact values: device `c` holds block `c` of the running products of the whole array.
-/
module

public import proofs.«01_k».proof.Proof.Launch
public import proofs.«01_k».proof.Proof.Reference
public import Idealize.ShloMosaic.Lib.Layout

@[expose] public section

noncomputable section

namespace Cert.Cumprod

open Cert.KernelIdeal Cert.KernelIdeal.Gen
open Idealize.ShloMosaic Idealize.ShloMosaic.TcCoe Idealize.ShloMosaic.ValueIdx
open Finset

/-- The whole array's shape. -/
abbrev SX : Shape := ⟨2, ![4096, 512]⟩

/-- Row `k` of block `c` is row `1024 c + k` of the whole array. -/
theorem col_block (x : FVec Ideal SX .f32) (c : Fin 4) (n : Fin 512) {k : ℕ} (hk : k < 1024) :
    col (r := 1024) (Layout.block S1024x512 SX 0 4 c x) n k = col x n (1024 * c.val + k) := by
  rw [show k = (⟨k, hk⟩ : Fin 1024).val from rfl, col_apply, show 1024 * c.val + k = (⟨1024 * c.val + k, by omega⟩ : Fin 4096).val from rfl, col_apply,
    Layout.block_apply]
  refine congrArg x (funext fun a => Fin.ext ?_)
  match a with
  | ⟨0, _⟩ =>
    show c.val * 1024 + k = 1024 * c.val + k
    omega
  | ⟨1, _⟩ => rfl

variable {m : (ℓ : Loc nD τ sig) → Buf (Elt Ideal) ℓ} (ρ : Dev nD → PrngReg) {x : FVec Ideal SX .f32}

/-- What a device sends is the product of the rows of its block. -/
theorem tot_eq (hm : ∀ c : Dev nD, m ((c : Thread nD τ).loc main_arg0) = Layout.block S1024x512 SX 0 4 c x) (c : Dev nD) (n : Fin 512) :
    tot m ρ c (ix2 (0 : Fin 1) n) = (∏ k ∈ range 1024, col x n (1024 * c.val + k) : EReal) := by
  unfold tot
  rw [xstg_eq, hm]
  exact (total_eq _ n).trans (prod_congr rfl fun k hk => col_block x c n (mem_range.mp hk))

/-- One received slot multiplies in the product of the block of the device it comes from, if that device is earlier. -/
theorem step_eq (hm : ∀ c : Dev nD, m ((c : Thread nD τ).loc main_arg0) = Layout.block S1024x512 SX 0 4 c x) (c : Dev nD) (j : Fin 3)
    (p : FVec Ideal S1x512 .f32) (n : Fin 512) :
    step m ρ c j p (ix2 (0 : Fin 1) n)
      = (if j.val < c.val then p (ix2 (0 : Fin 1) n) * ∏ k ∈ range 1024, col x n (1024 * j.val + k) else p (ix2 (0 : Fin 1) n) : EReal) := by
  unfold step
  have hj : dv j < c ↔ j.val < c.val := Iff.rfl
  split
  · rename_i h
    rw [if_pos (hj.mp h), k0_pay10, shapeCast_self]
    refine congrArg₂ (fun a b : EReal => a * b) rfl (Eq.trans ?_ (tot_eq ρ hm (dv j) n))
    unfold asSlot shapeCast
    beta_reduce
    rw [Shape.reshapeEquiv_symm, Shape.reshapeEquiv_reshapeEquiv, Shape.reshapeEquiv_self]
  · rename_i h
    rw [if_neg fun e => h (hj.mpr e)]

/-- What stands before device `c`'s block is the product of all earlier rows. -/
theorem before_eq (hm : ∀ c : Dev nD, m ((c : Thread nD τ).loc main_arg0) = Layout.block S1024x512 SX 0 4 c x) (c : Dev nD) (n : Fin 512) :
    before m ρ c (ix2 (0 : Fin 1) n) = (∏ k ∈ range (1024 * c.val), col x n k : EReal) := by
  have h9 : (k0_pay9 (F := Ideal) (ix2 (0 : Fin 1) n) : EReal) = 1 := by
    unfold k0_pay9
    rw [shapeCast_self]
    exact Ideal.ofBits_one_f32
  unfold before
  rw [← prod_groups, step_eq ρ hm, step_eq ρ hm, step_eq ρ hm, h9]
  have hc : c.val < 4 := c.isLt
  obtain h | h | h | h : c.val = 0 ∨ c.val = 1 ∨ c.val = 2 ∨ c.val = 3 := by omega
  all_goals rw [h]; simp [prod_range_succ _ 1, prod_range_succ _ 2]

/-- Device `c`'s result is block `c` of the running products of the whole array. -/
theorem out_eq (hm : ∀ c : Dev nD, m ((c : Thread nD τ).loc main_arg0) = Layout.block S1024x512 SX 0 4 c x) (c : Dev nD) :
    outAt m ρ c = Layout.block S1024x512 SX 0 4 c (running x) := by
  funext i
  obtain ⟨k, n, rfl⟩ : ∃ (k : Fin 1024) (n : Fin 512), i = ix2 k n := ⟨i 0, i 1, eq_ix2 i⟩
  unfold outAt
  rw [xstg_eq, hm]
  refine (block_eq _ _ k n).trans ?_
  rw [before_eq ρ hm]
  have e : (∏ i ∈ range (k.val + 1), col (r := 1024) (Layout.block S1024x512 SX 0 4 c x) n i : EReal) = ∏ i ∈ range (k.val + 1), col x n (1024 * c.val + i) :=
    prod_congr rfl fun i hi => col_block x c n (by have := mem_range.mp hi; have := k.isLt; omega)
  refine (congrArg _ e).trans ((prod_range_add _ _ _).symm.trans ?_)
  show _ = (∏ i ∈ range (c.val * 1024 + k.val + 1), col x n i : EReal)
  rw [Nat.mul_comm, Nat.add_assoc]

end Cert.Cumprod

end
-- ==== Proof.lean ====
/-
The five claims of the distributed cumulative product, assembled: the two kernels and the reference run and leave their
arguments and semaphores as they must, the idealized kernel is the kernel, and each device's result is its block of the
reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Reference
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, its argument unchanged and its semaphores at zero, for any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (Cumprod.final_arg m ρ c), h.2⟩) (Cumprod.run_main m ρ)

/-- The kernel as printed and the kernel as idealized call the same body, -/
theorem bodies_eq {F : FTy → Type} [FloatOps F] : (Cert.Kernel.defs₀ (F := F)) = Cert.KernelIdeal.defs₀ (F := F) :=
  congrArg Defs.onTc (funext fun l => funext fun a => match l, a with
    | 0, (t, s) => rfl)

/-- so they are the same program. -/
theorem defs_eq {F : FTy → Type} [FloatOps F] : (Cert.Kernel.defs (F := F)) = Cert.KernelIdeal.defs (F := F) :=
  congrArg (Pipeline.defs (Cert.KernelIdeal.pcfgs (F := F))) bodies_eq

/-- The kernel runs on machine floats, -/
theorem frame_kernel : Cert.quiescent_Kernel := fun m ρ _ => by
  have h := frame_any (F := Bits) m ρ
  rw [← defs_eq] at h
  exact h

/-- and on exact values. -/
theorem frame_ideal : Cert.quiescent_KernelIdeal := fun m ρ _ => frame_any (F := Ideal) m ρ

/-- The reference runs, its argument unchanged, on exact values. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- On exact values each device's result is its block of the reference's: the running products of the whole array. -/
theorem algebraic : Cert.algebraic_KernelIdeal_ReferenceIdeal := fun m g m' g' _ hm =>
  ⟨Cumprod.running (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c (1 : Fin 2)).trans ((Cumprod.final_res m g c).trans (Cumprod.out_eq g hm c)),
      (h.1 c (0 : Fin 2)).trans (Cumprod.final_arg m g c)⟩) (Cumprod.run_main m g),
    (θ_run Cert.ReferenceIdeal.defs _ _).mono (fun _ h => h 0) (Cumprod.reference_run m' g')⟩

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
